-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S5120x3584 : Shape := ⟨2, ![5120, 3584]⟩
abbrev S3584 : Shape := ⟨1, ![3584]⟩
abbrev S_ : Shape := ⟨0, ![]⟩

class Facts : Prop where
  bitsLt_bf16_f32 : FTy.bits .bf16 < FTy.bits .f32
  bcast_S_S5120x3584 : S_.BroadcastsInDim S5120x3584 (![] : Fin 0 → Fin S5120x3584.rank)

variable [Facts]

def fn {F : FTy → Type} [FloatOps F] (main_arg0 : FVec F S5120x3584 .bf16) (main_arg1 : FVec F S3584 .f32) : IVec S5120x3584 1 :=
  let main_v0 : FVec F S5120x3584 .f32 := (extf .f32 · bitsLt_bf16_f32) main_arg0
  let main_v1 : FVec F S5120x3584 .f32 := Host.absf main_v0
  let main_cst : FVec F S_ .f32 := constant S_ .f32 0x7F7F0000#32
  let main_v2 : FVec F S5120x3584 .f32 := broadcastInDim S5120x3584 ![] bcast_S_S5120x3584 main_cst
  let main_v3 : IVec S5120x3584 1 := cmpf .ole main_v1 main_v2
  main_v3
-- ==== Kernel.lean ====
abbrev S5120x3584 : Shape := ⟨2, ![5120, 3584]⟩
abbrev S3584 : Shape := ⟨1, ![3584]⟩
abbrev S256 : Shape := ⟨1, ![256]⟩
abbrev S128 : Shape := ⟨1, ![128]⟩
abbrev S256x256 : Shape := ⟨2, ![256, 256]⟩
abbrev S14x256 : Shape := ⟨2, ![14, 256]⟩
abbrev S_ : Shape := ⟨0, ![]⟩
abbrev S256x1 : Shape := ⟨2, ![256, 1]⟩
abbrev S3584x1 : Shape := ⟨2, ![3584, 1]⟩
abbrev S3584x128 : Shape := ⟨2, ![3584, 128]⟩
abbrev S1x128 : Shape := ⟨2, ![1, 128]⟩
abbrev S8x128 : Shape := ⟨2, ![8, 128]⟩
abbrev S5120x1792 : Shape := ⟨2, ![5120, 1792]⟩
abbrev S5120x112 : Shape := ⟨2, ![5120, 112]⟩
abbrev S20x1x256 : Shape := ⟨3, ![20, 1, 256]⟩
abbrev S256x3584 : Shape := ⟨2, ![256, 3584]⟩
abbrev S256x1792 : Shape := ⟨2, ![256, 1792]⟩
abbrev S256x112 : Shape := ⟨2, ![256, 112]⟩
abbrev S1x1x256 : Shape := ⟨3, ![1, 1, 256]⟩
abbrev S1792x256 : Shape := ⟨2, ![1792, 256]⟩
abbrev S128x256 : Shape := ⟨2, ![128, 256]⟩
abbrev S16x128 : Shape := ⟨2, ![16, 128]⟩
abbrev S1x256 : Shape := ⟨2, ![1, 256]⟩
abbrev S256x128 : Shape := ⟨2, ![256, 128]⟩
abbrev S256x128x1 : Shape := ⟨3, ![256, 128, 1]⟩

abbrev nBuf : Space → Nat
  | .hbm => 27
  | .vmem => 14
  | .smem => 0
  | _ => 0

abbrev bufTy : (tb : Table) → Fin (tcTables nBuf tb) → BufTy
  | .hbm, ⟨0, _⟩ => ⟨S5120x3584, .bf16⟩
  | .hbm, ⟨1, _⟩ => ⟨S3584, .f32⟩
  | .hbm, ⟨2, _⟩ => ⟨S256, .i32⟩
  | .hbm, ⟨3, _⟩ => ⟨S256, .i1⟩
  | .hbm, ⟨4, _⟩ => ⟨S128, .i32⟩
  | .hbm, ⟨5, _⟩ => ⟨S256x256, .bf16⟩
  | .hbm, ⟨6, _⟩ => ⟨S14x256, .f32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S256, .i32⟩
  | .hbm, ⟨11, _⟩ => ⟨S256x1, .i32⟩
  | .hbm, ⟨12, _⟩ => ⟨S14x256, .f32⟩
  | .hbm, ⟨13, _⟩ => ⟨S3584x1, .f32⟩
  | .hbm, ⟨14, _⟩ => ⟨S3584x128, .f32⟩
  | .hbm, ⟨15, _⟩ => ⟨S1x128, .i32⟩
  | .hbm, ⟨16, _⟩ => ⟨S8x128, .i32⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i32⟩
  | .hbm, ⟨22, _⟩ => ⟨S256x256, .i1⟩
  | .hbm, ⟨23, _⟩ => ⟨S256x256, .bf16⟩
  | .hbm, ⟨24, _⟩ => ⟨S5120x1792, .fp8e4m3⟩
  | .hbm, ⟨25, _⟩ => ⟨S5120x112, .i32⟩
  | .hbm, ⟨26, _⟩ => ⟨S20x1x256, .f32⟩
  | .local _ .vmem, ⟨0, _⟩ => ⟨S256x3584, .bf16⟩
  | .local _ .vmem, ⟨1, _⟩ => ⟨S256x3584, .bf16⟩
  | .local _ .vmem, ⟨2, _⟩ => ⟨S256x256, .bf16⟩
  | .local _ .vmem, ⟨3, _⟩ => ⟨S256x256, .bf16⟩
  | .local _ .vmem, ⟨4, _⟩ => ⟨S3584x128, .f32⟩
  | .local _ .vmem, ⟨5, _⟩ => ⟨S8x128, .i32⟩
  | .local _ .vmem, ⟨6, _⟩ => ⟨S256x1792, .fp8e4m3⟩
  | .local _ .vmem, ⟨7, _⟩ => ⟨S256x1792, .fp8e4m3⟩
  | .local _ .vmem, ⟨8, _⟩ => ⟨S256x112, .i32⟩
  | .local _ .vmem, ⟨9, _⟩ => ⟨S256x112, .i32⟩
  | .local _ .vmem, ⟨10, _⟩ => ⟨S1x1x256, .f32⟩
  | .local _ .vmem, ⟨11, _⟩ => ⟨S1x1x256, .f32⟩
  | .local _ .vmem, ⟨12, _⟩ => ⟨S1792x256, .bf16⟩
  | .local _ .vmem, ⟨13, _⟩ => ⟨S128x256, .i32⟩
  | _, _ => ⟨S5120x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_cst : Ref sig .tc := ⟨.hbm, 5, rfl⟩
abbrev main_v0 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3584x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1792 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x112 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S5120x3584 : Shape := ⟨2, ![5120, 3584]⟩
abbrev S3584 : Shape := ⟨1, ![3584]⟩
abbrev S5120x896x4 : Shape := ⟨3, ![5120, 896, 4]⟩
abbrev S896x4 : Shape := ⟨2, ![896, 4]⟩
abbrev S5120x896x1 : Shape := ⟨3, ![5120, 896, 1]⟩
abbrev S5120x896 : Shape := ⟨2, ![5120, 896]⟩
abbrev S896x1 : Shape := ⟨2, ![896, 1]⟩
abbrev S896 : Shape := ⟨1, ![896]⟩
abbrev S1x896 : Shape := ⟨2, ![1, 896]⟩
abbrev S_ : Shape := ⟨0, ![]⟩
abbrev S5120x896x2 : Shape := ⟨3, ![5120, 896, 2]⟩
abbrev S5120x1792 : Shape := ⟨2, ![5120, 1792]⟩
abbrev S5120 : Shape := ⟨1, ![5120]⟩
abbrev S5120x1 : Shape := ⟨2, ![5120, 1]⟩
abbrev S254 : Shape := ⟨1, ![254]⟩
abbrev S1x254 : Shape := ⟨2, ![1, 254]⟩
abbrev S5120x254 : Shape := ⟨2, ![5120, 254]⟩
abbrev S5120x112 : Shape := ⟨2, ![5120, 112]⟩
abbrev S20x1x256 : Shape := ⟨3, ![20, 1, 256]⟩

abbrev nBuf : Space → Nat
  | .hbm => 211
  | .vmem => 0
  | .smem => 0
  | _ => 0

abbrev hbmTy0_0 (i : Nat) : BufTy := match i % 128 with
  | 0 => ⟨S5120x3584, .bf16⟩
  | 1 => ⟨S3584, .f32⟩
  | 2 => ⟨S5120x896x4, .bf16⟩
  | 3 => ⟨S896x4, .f32⟩
  | 4 => ⟨S5120x896x1, .bf16⟩
  | 5 => ⟨S5120x896, .bf16⟩
  | 6 => ⟨S5120x896x1, .bf16⟩
  | 7 => ⟨S5120x896, .bf16⟩
  | 8 => ⟨S5120x896x1, .bf16⟩
  | 9 => ⟨S5120x896, .bf16⟩
  | 10 => ⟨S5120x896x1, .bf16⟩
  | 11 => ⟨S5120x896, .bf16⟩
  | 12 => ⟨S5120x896, .f32⟩
  | 13 => ⟨S5120x896, .f32⟩
  | 14 => ⟨S896x1, .f32⟩
  | 15 => ⟨S896, .f32⟩
  | 16 => ⟨S1x896, .f32⟩
  | 17 => ⟨S5120x896, .f32⟩
  | 18 => ⟨S5120x896, .f32⟩
  | 19 => ⟨S5120x896, .f32⟩
  | 20 => ⟨S5120x896, .f32⟩
  | 21 => ⟨S896x1, .f32⟩
  | 22 => ⟨S896, .f32⟩
  | 23 => ⟨S1x896, .f32⟩
  | 24 => ⟨S5120x896, .f32⟩
  | 25 => ⟨S5120x896, .f32⟩
  | 26 => ⟨S5120x896, .f32⟩
  | 27 => ⟨S5120x896, .f32⟩
  | 28 => ⟨S896x1, .f32⟩
  | 29 => ⟨S896, .f32⟩
  | 30 => ⟨S1x896, .f32⟩
  | 31 => ⟨S5120x896, .f32⟩
  | 32 => ⟨S5120x896, .f32⟩
  | 33 => ⟨S5120x896, .f32⟩
  | 34 => ⟨S5120x896, .f32⟩
  | 35 => ⟨S896x1, .f32⟩
  | 36 => ⟨S896, .f32⟩
  | 37 => ⟨S1x896, .f32⟩
  | 38 => ⟨S5120x896, .f32⟩
  | 39 => ⟨S5120x896, .f32⟩
  | 40 => ⟨S5120x896, .i1⟩
  | 41 => ⟨S5120x896, .i32⟩
  | 42 => ⟨S5120x896, .i1⟩
  | 43 => ⟨S5120x896, .i32⟩
  | 44 => ⟨S5120x896, .i32⟩
  | 45 => ⟨S5120x896, .i1⟩
  | 46 => ⟨S5120x896, .i32⟩
  | 47 => ⟨S5120x896, .i32⟩
  | 48 => ⟨S5120x896, .i1⟩
  | 49 => ⟨S5120x896, .i32⟩
  | 50 => ⟨S5120x896, .i1⟩
  | 51 => ⟨S5120x896, .i32⟩
  | 52 => ⟨S5120x896, .i32⟩
  | 53 => ⟨S5120x896, .i1⟩
  | 54 => ⟨S5120x896, .i32⟩
  | 55 => ⟨S5120x896, .i32⟩
  | 56 => ⟨S5120x896, .i1⟩
  | 57 => ⟨S5120x896, .i32⟩
  | 58 => ⟨S5120x896, .i1⟩
  | 59 => ⟨S5120x896, .i32⟩
  | 60 => ⟨S5120x896, .i32⟩
  | 61 => ⟨S5120x896, .i1⟩
  | 62 => ⟨S5120x896, .i32⟩
  | 63 => ⟨S5120x896, .i32⟩
  | 64 => ⟨S5120x896, .i1⟩
  | 65 => ⟨S5120x896, .i32⟩
  | 66 => ⟨S5120x896, .i1⟩
  | 67 => ⟨S5120x896, .i32⟩
  | 68 => ⟨S5120x896, .i32⟩
  | 69 => ⟨S5120x896, .i1⟩
  | 70 => ⟨S5120x896, .i32⟩
  | 71 => ⟨S5120x896, .i32⟩
  | 72 => ⟨S_, .i32⟩
  | 73 => ⟨S5120x896, .i32⟩
  | 74 => ⟨S5120x896, .i1⟩
  | 75 => ⟨S_, .i32⟩
  | 76 => ⟨S5120x896, .i32⟩
  | 77 => ⟨S5120x896, .i1⟩
  | 78 => ⟨S_, .i32⟩
  | 79 => ⟨S5120x896, .i32⟩
  | 80 => ⟨S5120x896, .i1⟩
  | 81 => ⟨S_, .i32⟩
  | 82 => ⟨S5120x896, .i32⟩
  | 83 => ⟨S5120x896, .i1⟩
  | 84 => ⟨S_, .i32⟩
  | 85 => ⟨S_, .i32⟩
  | 86 => ⟨S5120x896, .i32⟩
  | 87 => ⟨S5120x896, .i32⟩
  | 88 => ⟨S5120x896, .i32⟩
  | 89 => ⟨S_, .i32⟩
  | 90 => ⟨S5120x896, .i32⟩
  | 91 => ⟨S5120x896, .i32⟩
  | 92 => ⟨S_, .i32⟩
  | 93 => ⟨S5120x896, .i32⟩
  | 94 => ⟨S5120x896, .i32⟩
  | 95 => ⟨S_, .i32⟩
  | 96 => ⟨S_, .i32⟩
  | 97 => ⟨S5120x896, .i32⟩
  | 98 => ⟨S5120x896, .i32⟩
  | 99 => ⟨S5120x896, .i32⟩
  | 100 => ⟨S_, .i32⟩
  | 101 => ⟨S5120x896, .i32⟩
  | 102 => ⟨S5120x896, .i32⟩
  | 103 => ⟨S_, .i32⟩
  | 104 => ⟨S5120x896, .i32⟩
  | 105 => ⟨S5120x896, .i32⟩
  | 106 => ⟨S5120x896, .bf16⟩
  | 107 => ⟨S5120x896, .bf16⟩
  | 108 => ⟨S5120x896, .bf16⟩
  | 109 => ⟨S5120x896, .bf16⟩
  | 110 => ⟨S5120x896x1, .bf16⟩
  | 111 => ⟨S5120x896x1, .bf16⟩
  | 112 => ⟨S5120x896x2, .bf16⟩
  | 113 => ⟨S5120x1792, .bf16⟩
  | 114 => ⟨S5120x1792, .f32⟩
  | 115 => ⟨S5120x1792, .f32⟩
  | 116 => ⟨S_, .f32⟩
  | 117 => ⟨S5120, .f32⟩
  | 118 => ⟨S5120x1, .f32⟩
  | 119 => ⟨S_, .f32⟩
  | 120 => ⟨S5120x1, .f32⟩
  | 121 => ⟨S5120x1, .f32⟩
  | 122 => ⟨S254, .i32⟩
  | 123 => ⟨S_, .i32⟩
  | 124 => ⟨S254, .i32⟩
  | 125 => ⟨S254, .i32⟩
  | 126 => ⟨S254, .f32⟩
  | 127 => ⟨S_, .f32⟩
  | _ => ⟨S5120x3584, .bf16⟩

abbrev hbmTy0_1 (i : Nat) : BufTy := match i % 128 with
  | 0 => ⟨S254, .f32⟩
  | 1 => ⟨S254, .f32⟩
  | 2 => ⟨S1x254, .f32⟩
  | 3 => ⟨S5120x254, .f32⟩
  | 4 => ⟨S5120x254, .f32⟩
  | 5 => ⟨S5120x254, .i1⟩
  | 6 => ⟨S5120x254, .i32⟩
  | 7 => ⟨S_, .i32⟩
  | 8 => ⟨S5120, .i32⟩
  | 9 => ⟨S5120x1, .i32⟩
  | 10 => ⟨S_, .i32⟩
  | 11 => ⟨S5120x1, .i32⟩
  | 12 => ⟨S5120x1, .i1⟩
  | 13 => ⟨S_, .i32⟩
  | 14 => ⟨S5120x1, .i32⟩
  | 15 => ⟨S5120x1, .i32⟩
  | 16 => ⟨S_, .i32⟩
  | 17 => ⟨S_, .i32⟩
  | 18 => ⟨S5120x1, .i32⟩
  | 19 => ⟨S5120x1, .i32⟩
  | 20 => ⟨S5120x1, .f32⟩
  | 21 => ⟨S_, .f32⟩
  | 22 => ⟨S5120x1, .f32⟩
  | 23 => ⟨S5120x1, .f32⟩
  | 24 => ⟨S5120x1, .i32⟩
  | 25 => ⟨S5120x1, .f32⟩
  | 26 => ⟨S_, .f32⟩
  | 27 => ⟨S5120x1, .f32⟩
  | 28 => ⟨S5120x1, .f32⟩
  | 29 => ⟨S5120x1792, .f32⟩
  | 30 => ⟨S5120x1792, .f32⟩
  | 31 => ⟨S_, .f32⟩
  | 32 => ⟨S_, .f32⟩
  | 33 => ⟨S_, .f32⟩
  | 34 => ⟨S5120x1792, .f32⟩
  | 35 => ⟨S5120x1792, .f32⟩
  | 36 => ⟨S_, .f32⟩
  | 37 => ⟨S5120x1792, .f32⟩
  | 38 => ⟨S5120x1792, .f32⟩
  | 39 => ⟨S5120x1792, .fp8e4m3⟩
  | 40 => ⟨S_, .i32⟩
  | 41 => ⟨S5120x896, .i32⟩
  | 42 => ⟨S5120x896, .i32⟩
  | 43 => ⟨S5120x896, .i32⟩
  | 44 => ⟨S5120x896, .i32⟩
  | 45 => ⟨S5120x112, .i32⟩
  | 46 => ⟨S5120x112, .i32⟩
  | 47 => ⟨S_, .i32⟩
  | 48 => ⟨S5120x112, .i32⟩
  | 49 => ⟨S5120x112, .i32⟩
  | 50 => ⟨S5120x112, .i32⟩
  | 51 => ⟨S5120x112, .i32⟩
  | 52 => ⟨S_, .i32⟩
  | 53 => ⟨S5120x112, .i32⟩
  | 54 => ⟨S5120x112, .i32⟩
  | 55 => ⟨S5120x112, .i32⟩
  | 56 => ⟨S5120x112, .i32⟩
  | 57 => ⟨S_, .i32⟩
  | 58 => ⟨S5120x112, .i32⟩
  | 59 => ⟨S5120x112, .i32⟩
  | 60 => ⟨S5120x112, .i32⟩
  | 61 => ⟨S5120x112, .i32⟩
  | 62 => ⟨S_, .i32⟩
  | 63 => ⟨S5120x112, .i32⟩
  | 64 => ⟨S5120x112, .i32⟩
  | 65 => ⟨S5120x112, .i32⟩
  | 66 => ⟨S5120x112, .i32⟩
  | 67 => ⟨S_, .i32⟩
  | 68 => ⟨S5120x112, .i32⟩
  | 69 => ⟨S5120x112, .i32⟩
  | 70 => ⟨S5120x112, .i32⟩
  | 71 => ⟨S5120x112, .i32⟩
  | 72 => ⟨S_, .i32⟩
  | 73 => ⟨S5120x112, .i32⟩
  | 74 => ⟨S5120x112, .i32⟩
  | 75 => ⟨S5120x112, .i32⟩
  | 76 => ⟨S5120x112, .i32⟩
  | 77 => ⟨S_, .i32⟩
  | 78 => ⟨S5120x112, .i32⟩
  | 79 => ⟨S5120x112, .i32⟩
  | 80 => ⟨S5120x112, .i32⟩
  | 81 => ⟨S5120x112, .i32⟩
  | 82 => ⟨S20x1x256, .f32⟩
  | _ => ⟨S5120x3584, .bf16⟩

abbrev hbmTy (i : Nat) : BufTy := match i / 128 with
  | 0 => hbmTy0_0 i
  | 1 => hbmTy0_1 i
  | _ => ⟨S5120x3584, .bf16⟩

abbrev bufTy : (tb : Table) → Fin (tcTables nBuf tb) → BufTy
  | .hbm, ⟨i, _⟩ => hbmTy i
  | _, _ => ⟨S5120x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_c : Ref sig .tc := ⟨.hbm, 72, rfl⟩
abbrev main_v70 : Ref sig .tc := ⟨.hbm, 73, rfl⟩
abbrev main_v71 : Ref sig .tc := ⟨.hbm, 74, rfl⟩
abbrev main_c_0 : Ref sig .tc := ⟨.hbm, 75, rfl⟩
abbrev main_v72 : Ref sig .tc := ⟨.hbm, 76, rfl⟩
abbrev main_v73 : Ref sig .tc := ⟨.hbm, 77, rfl⟩
abbrev main_c_1 : Ref sig .tc := ⟨.hbm, 78, rfl⟩
abbrev main_v74 : Ref sig .tc := ⟨.hbm, 79, rfl⟩
abbrev main_v75 : Ref sig .tc := ⟨.hbm, 80, rfl⟩
abbrev main_c_2 : Ref sig .tc := ⟨.hbm, 81, rfl⟩
abbrev main_v76 : Ref sig .tc := ⟨.hbm, 82, rfl⟩
abbrev main_v77 : Ref sig .tc := ⟨.hbm, 83, rfl⟩
abbrev main_c_3 : Ref sig .tc := ⟨.hbm, 84, rfl⟩
abbrev main_c_4 : Ref sig .tc := ⟨.hbm, 85, rfl⟩
abbrev main_call0_v0 : Ref sig .tc := ⟨.hbm, 86, rfl⟩
abbrev main_call0_v1 : Ref sig .tc := ⟨.hbm, 87, rfl⟩
abbrev main_v78 : Ref sig .tc := ⟨.hbm, 88, rfl⟩
abbrev main_c_5 : Ref sig .tc := ⟨.hbm, 89, rfl⟩
abbrev main_call1_v0 : Ref sig .tc := ⟨.hbm, 90, rfl⟩
abbrev main_v79 : Ref sig .tc := ⟨.hbm, 91, rfl⟩
abbrev main_c_6 : Ref sig .tc := ⟨.hbm, 92, rfl⟩
abbrev main_call2_v0 : Ref sig .tc := ⟨.hbm, 93, rfl⟩
abbrev main_v80 : Ref sig .tc := ⟨.hbm, 94, rfl⟩
abbrev main_c_7 : Ref sig .tc := ⟨.hbm, 95, rfl⟩
abbrev main_c_8 : Ref sig .tc := ⟨.hbm, 96, rfl⟩
abbrev main_call3_v0 : Ref sig .tc := ⟨.hbm, 97, rfl⟩
abbrev main_call3_v1 : Ref sig .tc := ⟨.hbm, 98, rfl⟩
abbrev main_v81 : Ref sig .tc := ⟨.hbm, 99, rfl⟩
abbrev main_c_9 : Ref sig .tc := ⟨.hbm, 100, rfl⟩
abbrev main_call4_v0 : Ref sig .tc := ⟨.hbm, 101, rfl⟩
abbrev main_v82 : Ref sig .tc := ⟨.hbm, 102, rfl⟩
abbrev main_c_10 : Ref sig .tc := ⟨.hbm, 103, rfl⟩
abbrev main_call5_v0 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst : Ref sig .tc := ⟨.hbm, 116, rfl⟩
abbrev main_v94 : Ref sig .tc := ⟨.hbm, 117, rfl⟩
abbrev main_v95 : Ref sig .tc := ⟨.hbm, 118, rfl⟩
abbrev main_cst_11 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_c_12 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_13 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_c_14 : Ref sig .tc := ⟨.hbm, 135, rfl⟩
abbrev main_v109 : Ref sig .tc := ⟨.hbm, 136, rfl⟩
abbrev main_v110 : Ref sig .tc := ⟨.hbm, 137, rfl⟩
abbrev main_c_15 : Ref sig .tc := ⟨.hbm, 138, rfl⟩
abbrev main_v111 : Ref sig .tc := ⟨.hbm, 139, rfl⟩
abbrev main_v112 : Ref sig .tc := ⟨.hbm, 140, rfl⟩
abbrev main_c_16 : Ref sig .tc := ⟨.hbm, 141, rfl⟩
abbrev main_v113 : Ref sig .tc := ⟨.hbm, 142, rfl⟩
abbrev main_v114 : Ref sig .tc := ⟨.hbm, 143, rfl⟩
abbrev main_c_17 : Ref sig .tc := ⟨.hbm, 144, rfl⟩
abbrev main_call10_v0 : Ref sig .tc := ⟨.hbm, 145, rfl⟩
abbrev main_call10_v1 : Ref sig .tc := ⟨.hbm, 146, rfl⟩
abbrev main_v115 : Ref sig .tc := ⟨.hbm, 147, rfl⟩
abbrev main_v116 : Ref sig .tc := ⟨.hbm, 148, rfl⟩
abbrev main_cst_18 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_19 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_20 : Ref sig .tc := ⟨.hbm, 159, rfl⟩
abbrev main_cst_21 : Ref sig .tc := ⟨.hbm, 160, rfl⟩
abbrev main_call11_v0 : Ref sig .tc := ⟨.hbm, 161, rfl⟩
abbrev main_call11_v1 : Ref sig .tc := ⟨.hbm, 162, rfl⟩
abbrev main_call11_v2 : Ref sig .tc := ⟨.hbm, 163, rfl⟩
abbrev main_call11_v3 : Ref sig .tc := ⟨.hbm, 164, rfl⟩
abbrev main_call11_v4 : Ref sig .tc := ⟨.hbm, 165, rfl⟩
abbrev main_v125 : Ref sig .tc := ⟨.hbm, 166, rfl⟩
abbrev main_v126 : Ref sig .tc := ⟨.hbm, 167, rfl⟩
abbrev main_c_22 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_c_23 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_c_24 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_c_25 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_c_26 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_c_27 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_c_28 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_c_29 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩

abbrev nD : Nat := 1
abbrev τ : Topo := Topo.v7x

variable {F : FTy → Type} [FloatOps F]
-- ==== Proof.KernelFrame.lean ====
/-
  The kernel's frame: from any memory with zero counters it runs to the end, leaves its arguments as they were and every
  counter at zero. What the outputs hold is not stated here.
-/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The frame from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_runs (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S256x3584 .bf16 := win0_0.stage (cfg0.slots t 0)
/-- It is whole. -/
abbrev hs0_0 (t : Fin cfg0.N) : (ms0_0 t).IsWhole := hstage0_0 ((cfg0.slots t 0).cast nbuf0_0)
/-- The staging buffer of the permutation's window at a grid point. -/
abbrev ms0_1 (t : Fin cfg0.N) : Memref sig .tc .vmem S256x256 .bf16 := win0_1.stage (cfg0.slots t 1)
/-- It is whole. -/
abbrev hs0_1 (t : Fin cfg0.N) : (ms0_1 t).IsWhole := hstage0_1 ((cfg0.slots t 1).cast nbuf0_1)
/-- The staging buffer of the unit diagonal's window at a grid point. -/
abbrev ms0_2 (t : Fin cfg0.N) : Memref sig .tc .vmem S256x256 .bf16 := win0_2.stage (cfg0.slots t 2)
/-- It is whole. -/
abbrev hs0_2 (t : Fin cfg0.N) : (ms0_2 t).IsWhole := hstage0_2 ((cfg0.slots t 2).cast nbuf0_2)
/-- The staging buffer of the norms' window at a grid point. -/
abbrev ms0_3 (t : Fin cfg0.N) : Memref sig .tc .vmem S3584x128 .f32 := win0_3.stage (cfg0.slots t 3)
/-- It is whole. -/
abbrev hs0_3 (t : Fin cfg0.N) : (ms0_3 t).IsWhole := hstage0_3 ((cfg0.slots t 3).cast nbuf0_3)
/-- The staging buffer of the lane sources' window at a grid point. -/
abbrev ms0_4 (t : Fin cfg0.N) : Memref sig .tc .vmem S8x128 .i32 := win0_4.stage (cfg0.slots t 4)
/-- It is whole. -/
abbrev hs0_4 (t : Fin cfg0.N) : (ms0_4 t).IsWhole := hstage0_4 ((cfg0.slots t 4).cast nbuf0_4)
/-- The staging buffer of the values' window at a grid point. -/
abbrev ms0_5 (t : Fin cfg0.N) : Memref sig .tc .vmem S256x1792 .fp8e4m3 := win0_5.stage (cfg0.slots t 5)
/-- It is whole. -/
abbrev hs0_5 (t : Fin cfg0.N) : (ms0_5 t).IsWhole := hstage0_5 ((cfg0.slots t 5).cast nbuf0_5)
/-- The staging buffer of the words' window at a grid point. -/
abbrev ms0_6 (t : Fin cfg0.N) : Memref sig .tc .vmem S256x112 .i32 := win0_6.stage (cfg0.slots t 6)
/-- It is whole. -/
abbrev hs0_6 (t : Fin cfg0.N) : (ms0_6 t).IsWhole := hstage0_6 ((cfg0.slots t 6).cast nbuf0_6)
/-- The staging buffer of the scales' window at a grid point. -/
abbrev ms0_7 (t : Fin cfg0.N) : Memref sig .tc .vmem S1x1x256 .f32 := win0_7.stage (cfg0.slots t 7)
/-- It is whole. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1792x256 .bf16 := Memref.whole cc0_scratch0
/-- The scratch of words. -/
abbrev scM0_1 : Memref sig .tc .vmem S128x256 .i32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 6640000 in
/-- The body's triple: on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg1 : Memref sig .tc .vmem S256x3584 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S3584x128 .f32) (harg4 : arg4.IsWhole) (arg5 : Memref sig .tc .vmem S8x128 .i32) (harg5 : arg5.IsWhole) (arg6 : Memref sig .tc .vmem S256x1792 .fp8e4m3) (harg6 : arg6.IsWhole) (arg7 : Memref sig .tc .vmem S256x112 .i32) (harg7 : arg7.IsWhole) (arg8 : Memref sig .tc .vmem S1x1x256 .f32) (harg8 : arg8.IsWhole) (arg9 : Memref sig .tc .vmem S1792x256 .bf16) (harg9 : arg9.IsWhole) (arg10 : Memref sig .tc .vmem S128x256 .i32) (harg10 : arg10.IsWhole)
    (x0 : Vec F S256x3584 .bf16) (x1 : Vec F S256x256 .bf16) (x2 : Vec F S256x256 .bf16) (x3 : Vec F S3584x128 .f32) (x4 : Vec F S8x128 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_compress24 i arg1 harg1 arg2 harg2 arg3 harg3 arg4 harg4 arg5 harg5 arg6 harg6 arg7 harg7 arg8 harg8 arg9 harg9 arg10 harg10) K := by
    intro E K
    simp only [cc0_compress24_eq_skeleton]; unfold cc0_compress24_skel
    simp only [k0_part182_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part183_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part184_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

/-! ## The pipeline's proof data -/

/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the permutation's buffer holds after the body. -/
theorem after0_1 (c : Dev nD) (t : Fin cfg0.N) : (dats m 0 c).after 1 t = iblk m c 1 t := by dsimp only [dats]
/-- What the unit diagonal's buffer holds after the body. -/
theorem after0_2 (c : Dev nD) (t : Fin cfg0.N) : (dats m 0 c).after 2 t = iblk m c 2 t := by dsimp only [dats]
/-- What the norms' buffer holds after the body. -/
theorem after0_3 (c : Dev nD) (t : Fin cfg0.N) : (dats m 0 c).after 3 t = iblk m c 3 t := by dsimp only [dats]
/-- What the lane sources' buffer holds after the body. -/
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What the permutation's buffer holds before the body. -/
theorem before0_1 (c : Dev nD) (t : Fin cfg0.N) (d) : (dats m 0 c).before 1 t d = iblk m c 1 t :=
  before0_1_of m (dats m 0 c) (A_eq m c 1) (after0_1 m c) t d
/-- What the unit diagonal's buffer holds before the body. -/
theorem before0_2 (c : Dev nD) (t : Fin cfg0.N) (d) : (dats m 0 c).before 2 t d = iblk m c 2 t :=
  before0_2_of m (dats m 0 c) (A_eq m c 2) (after0_2 m c) t d
/-- What the norms' buffer holds before the body. -/
theorem before0_3 (c : Dev nD) (t : Fin cfg0.N) (d) : (dats m 0 c).before 3 t d = iblk m c 3 t :=
  before0_3_of m (dats m 0 c) (A_eq m c 3) (after0_3 m c) t d
/-- What the lane sources' buffer holds before the body. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_runs m ρ (fun c => (dats m 0 c).toRForget forgets0) (A_eq m) (run_main m ρ)

/-- `Cert.quiescent_Kernel`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Body

end
-- ==== Proof.Run.lean ====
/-
  One run of the idealized kernel's body, on any staging buffers: the pieces its stores leave in each buffer.
  The scratch that holds the metadata words is read whole although its last sixteen rows are never stored, so the
  words it starts with (`xs1`) are an argument of the run.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6720000 in
/-- What the body's stores leave in each buffer, as pieces (last first), with the proof that from the inputs' blocks,
    any outputs, any values scratch and the words scratch at `xs1` the body runs to the continuation holding the
    inputs as they were and every other buffer with its pieces written. -/
noncomputable def kernelRun (c : Dev nD) (i : grid0.Coords) (arg1 : Memref sig .tc .vmem S256x3584 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S3584x128 .f32) (harg4 : arg4.IsWhole) (arg5 : Memref sig .tc .vmem S8x128 .i32) (harg5 : arg5.IsWhole) (arg6 : Memref sig .tc .vmem S256x1792 .fp8e4m3) (harg6 : arg6.IsWhole) (arg7 : Memref sig .tc .vmem S256x112 .i32) (harg7 : arg7.IsWhole) (arg8 : Memref sig .tc .vmem S1x1x256 .f32) (harg8 : arg8.IsWhole) (arg9 : Memref sig .tc .vmem S1792x256 .bf16) (harg9 : arg9.IsWhole) (arg10 : Memref sig .tc .vmem S128x256 .i32) (harg10 : arg10.IsWhole)
    (x0 : Vec F S256x3584 .bf16) (x1 : Vec F S256x256 .bf16) (x2 : Vec F S256x256 .bf16) (x3 : Vec F S3584x128 .f32) (x4 : Vec F S8x128 .i32) (xs1 : Vec F S128x256 .i32) :
    Σ' (L5 : List (View.Piece (Elt F) S256x1792 .fp8e4m3)), Σ' (L6 : List (View.Piece (Elt F) S256x112 .i32)), Σ' (L7 : List (View.Piece (Elt F) S1x1x256 .f32)), Σ' (LT0 : List (View.Piece (Elt F) S1792x256 .bf16)), { LT1 : List (View.Piece (Elt F) S128x256 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1)) -∗ K ⟨⟩))
          ⊢ wp frame (wpE (defs₀ (F := F)) Variants.none c none) E (cc0_compress24 i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0_compress24_eq_skeleton]; unfold cc0_compress24_skel
    simp only [k0_part182_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part183_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part184_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Body

end
-- ==== Proof.Block.lean ====
/-
  What one run of the body writes, told once for every tile, lane half and group of rows: the same operations the
  body performs, indexed, and the proof that the pieces found by the run are these.
-/
module

public import proofs.«01_k».proof.Proof.Run

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-! ## One tile -/

/-- Tile `t` of the weights with its channels permuted: row `r` is one channel, the columns are the block's rows. -/
def xt (P W : FVec F S256x256 .bf16) : FVec F S256x256 .f32 :=
  matmul dot_S256x256_S256x256_S256x256_1_1_0_0_n_n none P W (constant S256x256 .f32 0x00000000#32)

/-- Sixteen rows of one half lie inside a tile. -/
theorem slices16 (l : Fin 2) (jj c : Fin 4) :
    S256x256.Slices ![c.val * 64 + jj.val * 16, l.val * 128] S16x128 := by
  revert l jj c; decide

/-- Sixteen of the tile's rows at one half of its columns. -/
def sub (X : FVec F S256x256 .f32) (l : Fin 2) (jj c : Fin 4) : FVec F S16x128 .f32 :=
  extractStridedSlice S16x128 ![c.val * 64 + jj.val * 16, l.val * 128] X (slices16 l jj c)

/-- The weights of member `c` of sixteen groups. -/
def val (X : FVec F S256x256 .f32) (l : Fin 2) (jj c : Fin 4) : FVec F S16x128 .bf16 :=
  truncf .bf16 (sub X l jj c) bitsLt_bf16_f32

/-- Their saliences. -/
def key (X : FVec F S256x256 .f32) (A : Fin 4 → Fin 4 → FVec F S16x128 .f32) (l : Fin 2) (jj c : Fin 4) :
    FVec F S16x128 .f32 :=
  mulf (absf (sub X l jj c)) (shapeCast S16x128 (A jj c) shapeCasts_S16x128_S16x128)

/-- The first member's salience is at least the second's. -/
def c01 (X : FVec F S256x256 .f32) (A : Fin 4 → Fin 4 → FVec F S16x128 .f32) (l : Fin 2) (jj : Fin 4) : IVec S16x128 1 :=
  cmpf .oge (key X A l jj 0) (key X A l jj 1)

/-- The third member's salience is at least the fourth's. -/
def c23 (X : FVec F S256x256 .f32) (A : Fin 4 → Fin 4 → FVec F S16x128 .f32) (l : Fin 2) (jj : Fin 4) : IVec S16x128 1 :=
  cmpf .oge (key X A l jj 2) (key X A l jj 3)

/-- The first two members are both kept. -/
def bothLo (X : FVec F S256x256 .f32) (A : Fin 4 → Fin 4 → FVec F S16x128 .f32) (l : Fin 2) (jj : Fin 4) : IVec S16x128 1 :=
  cmpf .oge (minimumf (key X A l jj 0) (key X A l jj 1)) (maximumf (key X A l jj 2) (key X A l jj 3))

/-- The last two members are both kept. -/
def bothHi (X : FVec F S256x256 .f32) (A : Fin 4 → Fin 4 → FVec F S16x128 .f32) (l : Fin 2) (jj : Fin 4) : IVec S16x128 1 :=
  cmpf .ogt (minimumf (key X A l jj 2) (key X A l jj 3)) (maximumf (key X A l jj 0) (key X A l jj 1))

/-- The first kept weight. -/
def kept0 (X : FVec F S256x256 .f32) (A : Fin 4 → Fin 4 → FVec F S16x128 .f32) (l : Fin 2) (jj : Fin 4) :
    FVec F S16x128 .bf16 :=
  select (bothHi X A l jj) (val X l jj 2) (select (ori (c01 X A l jj) (bothLo X A l jj)) (val X l jj 0) (val X l jj 1))

/-- The second kept weight. -/
def kept1 (X : FVec F S256x256 .f32) (A : Fin 4 → Fin 4 → FVec F S16x128 .f32) (l : Fin 2) (jj : Fin 4) :
    FVec F S16x128 .bf16 :=
  select (bothLo X A l jj) (val X l jj 1)
    (select (andi (c23 X A l jj) (xori (bothHi X A l jj) (constantI S16x128 1 1#1))) (val X l jj 2) (val X l jj 3))

/-- The first or the second kept weight. -/
def kept (X : FVec F S256x256 .f32) (A : Fin 4 → Fin 4 → FVec F S16x128 .f32) (l : Fin 2) (jj : Fin 4) (s : Fin 2) :
    FVec F S16x128 .bf16 :=
  match s with
  | 0 => kept0 X A l jj
  | 1 => kept1 X A l jj

/-- A code at nibble `jj` of every half word. -/
def nib (jj : Fin 4) (n : Nat) : IVec S16x128 16 :=
  muli (broadcast S16x128 1#16) (broadcast S16x128 (BitVec.ofNat 16 (n * 16 ^ jj.val)))

/-- The kept places' code at nibble `jj`. -/
def code (X : FVec F S256x256 .f32) (A : Fin 4 → Fin 4 → FVec F S16x128 .f32) (l : Fin 2) (jj : Fin 4) : IVec S16x128 16 :=
  select (bothLo X A l jj) (nib jj 4) (select (bothHi X A l jj) (nib jj 14)
    (select (c01 X A l jj) (select (c23 X A l jj) (nib jj 8) (nib jj 12)) (select (c23 X A l jj) (nib jj 9) (nib jj 13))))

/-- The half words of four groups of rows. -/
def half (X : FVec F S256x256 .f32) (A : Fin 4 → Fin 4 → FVec F S16x128 .f32) (l : Fin 2) : IVec S16x128 16 :=
  ori (ori (ori (code X A l 0) (code X A l 1)) (code X A l 2)) (code X A l 3)

/-- The words. -/
def word (X : FVec F S256x256 .f32) (A : Fin 4 → Fin 4 → FVec F S16x128 .f32) (l : Fin 2) : IVec S8x128 32 :=
  shapeCast S8x128 (bitcast S8x128 32 (half X A l) bitcasts_S16x128_w16_S8x128_w32) shapeCasts_S8x128_S8x128

/-- The largest magnitude so far, one step. -/
def amaxStep (X : FVec F S256x256 .f32) (A : Fin 4 → Fin 4 → FVec F S16x128 .f32) (l : Fin 2) (a : FVec F S16x128 .bf16)
    (jj : Fin 4) : FVec F S16x128 .bf16 :=
  maximumf a (maximumf (absf (kept X A l jj 0)) (absf (kept X A l jj 1)))

/-! ## The block -/

/-- A piece of kept weights lies inside its scratch. -/
theorem inbV (t : Fin 14) (l : Fin 2) (jj : Fin 4) (s : Fin 2) :
    ∀ a, (![t.val * 128 + jj.val * 32 + s.val * 16, l.val * 128] : Fin 2 → Nat) a + (![16, 128] : Fin 2 → Nat) a
      ≤ S1792x256.size a := by
  intro a; have := t.isLt; have := l.isLt; have := jj.isLt; have := s.isLt
  match a with
  | ⟨0, _⟩ => show t.val * 128 + jj.val * 32 + s.val * 16 + 16 ≤ 1792; omega
  | ⟨1, _⟩ => show l.val * 128 + 128 ≤ 256; omega

/-- A piece of words lies inside its scratch. -/
theorem inbM (t : Fin 14) (l : Fin 2) :
    ∀ a, (![t.val * 8, l.val * 128] : Fin 2 → Nat) a + (![8, 128] : Fin 2 → Nat) a ≤ S128x256.size a := by
  intro a; have := t.isLt; have := l.isLt
  match a with
  | ⟨0, _⟩ => show t.val * 8 + 8 ≤ 128; omega
  | ⟨1, _⟩ => show l.val * 128 + 128 ≤ 256; omega

/-- Where the kept weights of a tile, a half, sixteen groups and a place are stored. -/
abbrev rectV (t : Fin 14) (l : Fin 2) (jj : Fin 4) (s : Fin 2) : Rect S1792x256 :=
  Rect.unit (s := S1792x256) ![t.val * 128 + jj.val * 32 + s.val * 16, l.val * 128] ![16, 128] (inbV t l jj s)

/-- Where the words of a tile and a half are stored. -/
abbrev rectM (t : Fin 14) (l : Fin 2) : Rect S128x256 :=
  Rect.unit (s := S128x256) ![t.val * 8, l.val * 128] ![8, 128] (inbM t l)

/-- The tiles. -/
def tiles : List (Fin 14) := [0, 1, 2, 3, 4, 5, 6, 7, 8, 9, 10, 11, 12, 13]

/-- The kept weights' pieces, in the order of the stores. -/
def keptPieces (X : Fin 14 → FVec F S256x256 .f32) (A : Fin 14 → Fin 4 → Fin 4 → FVec F S16x128 .f32) :
    List (View.Piece (Elt F) S1792x256 .bf16) :=
  tiles.flatMap fun t => [(0 : Fin 2), 1].flatMap fun l => [(0 : Fin 4), 1, 2, 3].flatMap fun jj => [(0 : Fin 2), 1].map fun s =>
    ⟨rectV t l jj s,
      shapeCast S16x128 (kept (X t) (A t) l jj s) shapeCasts_S16x128_S16x128⟩

/-- The words' pieces, in the order of the stores. -/
def wordPieces (X : Fin 14 → FVec F S256x256 .f32) (A : Fin 14 → Fin 4 → Fin 4 → FVec F S16x128 .f32) :
    List (View.Piece (Elt F) S128x256 .i32) :=
  tiles.flatMap fun t => [(0 : Fin 2), 1].map fun l =>
    ⟨rectM t l, word (X t) (A t) l⟩

/-- The largest magnitudes over all tiles of one half of the rows. -/
def amax (X : Fin 14 → FVec F S256x256 .f32) (A : Fin 14 → Fin 4 → Fin 4 → FVec F S16x128 .f32) (l : Fin 2) :
    FVec F S16x128 .bf16 :=
  tiles.foldl (fun a t => [(0 : Fin 4), 1, 2, 3].foldl (amaxStep (X t) (A t) l) a)
    (broadcast S16x128 (Scalar.ofBits .bf16 0x0000#16))

/-- Sixteen norms lie inside their block. -/
theorem inbA (t : Fin 14) (jj c : Fin 4) :
    ∀ a, (![t.val * 256 + c.val * 64 + jj.val * 16, 0] : Fin 2 → Nat) a + (![16, 128] : Fin 2 → Nat) a
      ≤ S3584x128.size a := by
  intro a; have := t.isLt; have := c.isLt; have := jj.isLt
  match a with
  | ⟨0, _⟩ => show t.val * 256 + c.val * 64 + jj.val * 16 + 16 ≤ 3584; omega
  | ⟨1, _⟩ => show 0 + 128 ≤ 128; omega

/-- A tile lies inside the block of weights. -/
theorem inbW (t : Fin 14) :
    ∀ a, (![0, t.val * 256] : Fin 2 → Nat) a + (![256, 256] : Fin 2 → Nat) a ≤ S256x3584.size a := by
  intro a; have := t.isLt
  match a with
  | ⟨0, _⟩ => show 0 + 256 ≤ 256; omega
  | ⟨1, _⟩ => show t.val * 256 + 256 ≤ 3584; omega

/-- The whole permutation lies inside itself. -/
theorem inbP : ∀ a, (![0, 0] : Fin 2 → Nat) a + (![256, 256] : Fin 2 → Nat) a ≤ S256x256.size a := by decide

/-- Where a tile of the weights lies. -/
abbrev rectW (t : Fin 14) : Rect S256x3584 :=
  Rect.unit (s := S256x3584) ![0, t.val * 256] ![256, 256] (inbW t)

/-- The whole permutation. -/
abbrev rectP : Rect S256x256 := Rect.unit (s := S256x256) ![0, 0] ![256, 256] inbP

/-- Where the activation norms of sixteen groups' members lie. -/
abbrev rectA (t : Fin 14) (jj c : Fin 4) : Rect S3584x128 :=
  Rect.unit (s := S3584x128) ![t.val * 256 + c.val * 64 + jj.val * 16, 0] ![16, 128] (inbA t jj c)

/-! ## The scale and the stored values -/

/-- A row's largest kept magnitude over 448. -/
def over448 (a0 a1 : FVec F S16x128 .bf16) : FVec F S1x256 .f32 :=
  mulf (concatenate S1x256 1
      [⟨S1x128, shapeCast S1x128 (multiReduction .maximumf [0] S128 (extf .f32 a0 bitsLt_bf16_f32) 0xFF800000#32 reduces_S16x128_S128 (.inl rfl) rfl) shapeCasts_S128_S1x128⟩,
       ⟨S1x128, shapeCast S1x128 (multiReduction .maximumf [0] S128 (extf .f32 a1 bitsLt_bf16_f32) 0xFF800000#32 reduces_S16x128_S128 (.inl rfl) rfl) shapeCasts_S128_S1x128⟩]
      concatenates_S1x128_S1x128_S1x256_d1)
    (broadcast S1x256 (Scalar.ofBits .f32 0x3B124925#32))

/-- One step of the search for the exponent field: the field `b + n` if its power of two is reached. -/
def searchStep (m : FVec F S1x256 .f32) (b : IVec S1x256 32) (n : BitVec 32) : IVec S1x256 32 :=
  select (cmpf .oge m (bitcastToFloat .f32 (shli (addi b (broadcast S1x256 n)) (broadcast S1x256 23#32))))
    (addi b (broadcast S1x256 n)) b

/-- The exponent field: the largest whose power of two is reached. -/
def search (m : FVec F S1x256 .f32) : IVec S1x256 32 :=
  [128#32, 64#32, 32#32, 16#32, 8#32, 4#32, 2#32, 1#32].foldl (searchStep m) (broadcast S1x256 0#32)

/-- The scale's exponent. -/
def expo (m : FVec F S1x256 .f32) : IVec S1x256 32 :=
  select (cmpi .eq (search m) (broadcast S1x256 0#32)) (broadcast S1x256 0#32) (subi (search m) (broadcast S1x256 126#32))

/-- The scale. -/
def scaleV (m : FVec F S1x256 .f32) : FVec F S1x256 .f32 :=
  bitcastToFloat .f32 (shli (addi (broadcast S1x256 127#32) (expo m)) (broadcast S1x256 23#32))

/-- The scale's inverse. -/
def invV (m : FVec F S1x256 .f32) : FVec F S1x256 .f32 :=
  bitcastToFloat .f32 (shli (subi (broadcast S1x256 127#32) (expo m)) (broadcast S1x256 23#32))

/-- The inverses on a diagonal. -/
def diag (m : FVec F S1x256 .f32) (E : FVec F S256x256 .bf16) : FVec F S256x256 .bf16 :=
  mulf (shapeCast S256x256 E shapeCasts_S256x256_S256x256)
    (broadcastTo S256x256 (truncf .bf16 (invV m) bitsLt_bf16_f32) broadcasts_S1x256_S256x256)

/-- Scaled, clipped and rounded. -/
def quant (D V : FVec F S256x256 .bf16) : FVec F S256x256 .fp8e4m3 :=
  truncf .fp8e4m3 (minimumf (broadcast S256x256 (Scalar.ofBits .f32 0x43E00000#32))
    (maximumf (broadcast S256x256 (Scalar.ofBits .f32 0xC3E00000#32))
      (matmul dot_S256x256_S256x256_S256x256_1_1_0_0_n_n none D V (constant S256x256 .f32 0x00000000#32))))
    bitsLt_fp8e4m3_f32

/-- Half of a tile's columns lies inside it. -/
theorem slicesH (h : Fin 2) : S256x256.Slices ![0, h.val * 128] S256x128 := by revert h; decide

/-- The lanes each lane takes its value from. -/
def lanes (s : IVec S1x128 32) : IVec S256x128 32 :=
  broadcastTo S256x128 (shapeCast S1x128 (shapeCast S1x128 s shapeCasts_S1x128_S1x128) shapeCasts_S1x128_S1x128)
    broadcasts_S1x128_S256x128

/-- Half a tile's values, gathered along their lanes. -/
def gath (Q : FVec F S256x256 .fp8e4m3) (s : IVec S1x128 32) (h : Fin 2) : FVec F S256x128 .fp8e4m3 :=
  truncf .fp8e4m3 (dynamicGather 1
    (extf .f32 (extractStridedSlice S256x128 ![0, h.val * 128] Q (slicesH h)) bitsLt_fp8e4m3_f32)
    (shapeCast S256x128 (shapeCast S256x128x1
      (select (cmpi .slt (lanes s) (broadcast S256x128 0#32)) (addi (lanes s) (broadcast S256x128 128#32)) (lanes s))
      shapeCasts_S256x128_S256x128x1) shapeCasts_S256x128x1_S256x128)) bitsLt_fp8e4m3_f32

/-- Half a tile of values lies inside the block of values. -/
theorem inbY (u : Fin 7) (h : Fin 2) :
    ∀ a, (![0, u.val * 256 + h.val * 128] : Fin 2 → Nat) a + (![256, 128] : Fin 2 → Nat) a ≤ S256x1792.size a := by
  intro a; have := u.isLt; have := h.isLt
  match a with
  | ⟨0, _⟩ => show 0 + 256 ≤ 256; omega
  | ⟨1, _⟩ => show u.val * 256 + h.val * 128 + 128 ≤ 1792; omega

/-- Where half a tile's values are stored. -/
abbrev rectY (u : Fin 7) (h : Fin 2) : Rect S256x1792 :=
  Rect.unit (s := S256x1792) ![0, u.val * 256 + h.val * 128] ![256, 128] (inbY u h)

/-- A tile of kept weights lies inside its scratch. -/
theorem inbK (u : Fin 7) :
    ∀ a, (![u.val * 256, 0] : Fin 2 → Nat) a + (![256, 256] : Fin 2 → Nat) a ≤ S1792x256.size a := by
  intro a; have := u.isLt
  match a with
  | ⟨0, _⟩ => show u.val * 256 + 256 ≤ 1792; omega
  | ⟨1, _⟩ => show 0 + 256 ≤ 256; omega

/-- Where a tile of kept weights lies. -/
abbrev rectK (u : Fin 7) : Rect S1792x256 := Rect.unit (s := S1792x256) ![u.val * 256, 0] ![256, 256] (inbK u)

/-- The values' pieces, in the order of the stores. -/
def valuePieces (D : FVec F S256x256 .bf16) (V : Fin 7 → FVec F S256x256 .bf16) (s : IVec S1x128 32) :
    List (View.Piece (Elt F) S256x1792 .fp8e4m3) :=
  [(0 : Fin 7), 1, 2, 3, 4, 5, 6].flatMap fun u => [(0 : Fin 2), 1].map fun h =>
    ⟨rectY u h, gath (quant D (V u)) s h⟩

/-- The first row of lane sources lies inside their block. -/
theorem inbS : ∀ a, (![0, 0] : Fin 2 → Nat) a + (![1, 128] : Fin 2 → Nat) a ≤ S8x128.size a := by decide

/-- The first row of the lane sources. -/
abbrev rectS : Rect S8x128 := Rect.unit (s := S8x128) ![0, 0] ![1, 128] inbS

/-- The whole block of words lies inside itself. -/
theorem inbZ6 : ∀ a, (![0, 0] : Fin 2 → Nat) a + (![256, 112] : Fin 2 → Nat) a ≤ S256x112.size a := by decide

/-- The whole block of scales lies inside itself. -/
theorem inbZ7 : ∀ a, (![0, 0, 0] : Fin 3 → Nat) a + (![1, 1, 256] : Fin 3 → Nat) a ≤ S1x1x256.size a := by decide

/-- The whole scratch of words lies inside itself. -/
theorem inbZ10 : ∀ a, (![0, 0] : Fin 2 → Nat) a + (![128, 256] : Fin 2 → Nat) a ≤ S128x256.size a := by decide

/-- The whole block of words. -/
abbrev rectZ6 : Rect S256x112 := Rect.unit (s := S256x112) ![0, 0] ![256, 112] inbZ6
/-- The whole block of scales. -/
abbrev rectZ7 : Rect S1x1x256 := Rect.unit (s := S1x1x256) ![0, 0, 0] ![1, 1, 256] inbZ7
/-- The whole scratch of words. -/
abbrev rectZ10 : Rect S128x256 := Rect.unit (s := S128x256) ![0, 0] ![128, 256] inbZ10

/-- The words that leave the block: transposed, the first 112 columns. -/
def words (M : IVec S128x256 32) : IVec S256x112 32 :=
  extractStridedSlice S256x112 ![0, 0] (transpose S256x128 [1, 0] M transposes_S128x256_p1_0_S256x128) slices_S256x128_o0_0_S256x112

section
variable (c : Dev nD) (arg1 : Memref sig .tc .vmem S256x3584 .bf16) (harg1 : arg1.IsWhole)
  (arg2 : Memref sig .tc .vmem S256x256 .bf16) (harg2 : arg2.IsWhole) (arg3 : Memref sig .tc .vmem S256x256 .bf16) (harg3 : arg3.IsWhole)
  (arg4 : Memref sig .tc .vmem S3584x128 .f32) (harg4 : arg4.IsWhole)
  (x0 : Vec F S256x3584 .bf16) (x1 x2 : Vec F S256x256 .bf16) (x3 : Vec F S3584x128 .f32)

/-- The permuted tiles as the body loads their factors. -/
def ldX (t : Fin 14) : FVec F S256x256 .f32 :=
  xt (View.readAt (Elt F) arg2.view rectP.toLoadRect (harg2.unread x1))
    (View.readAt (Elt F) arg1.view (rectW t).toLoadRect (harg1.unread x0))

/-- The activation norms as the body loads them. -/
def ldA (t : Fin 14) (jj cc : Fin 4) : FVec F S16x128 .f32 :=
  View.readAt (Elt F) arg4.view (rectA t jj cc).toLoadRect
    (harg4.unread x3)

/-- The stores of kept weights that the run makes are the indexed ones. -/
theorem keptPieces_eq : kernelRun.sl.HS0_224 c arg1 harg1 arg2 harg2 arg4 harg4 x0 x1 x3
    = (keptPieces (ldX arg1 harg1 arg2 harg2 x0 x1) (ldA arg4 harg4 x3)).reverse := by
  sl_kernel_rfl

/-- The stores of words that the run makes are the indexed ones. -/
theorem wordPieces_eq : kernelRun.sl.HS1_28 c arg1 harg1 arg2 harg2 arg4 harg4 x0 x1 x3
    = (wordPieces (ldX arg1 harg1 arg2 harg2 x0 x1) (ldA arg4 harg4 x3)).reverse := by
  sl_kernel_rfl

/-- A row's largest kept magnitude over 448, from the loads. -/
def ldM : FVec F S1x256 .f32 :=
  over448 (amax (ldX arg1 harg1 arg2 harg2 x0 x1) (ldA arg4 harg4 x3) 0) (amax (ldX arg1 harg1 arg2 harg2 x0 x1) (ldA arg4 harg4 x3) 1)

/-- The run's largest magnitude over 448 is the one told here. -/
theorem over448_eq : kernelRun.sl.r_1084 c arg1 harg1 arg2 harg2 arg4 harg4 x0 x1 x3 = ldM arg1 harg1 arg2 harg2 arg4 harg4 x0 x1 x3 := by
  sl_kernel_rfl

/-- The diagonal of inverse scales, from the loads. -/
def ldD : FVec F S256x256 .bf16 :=
  diag (ldM arg1 harg1 arg2 harg2 arg4 harg4 x0 x1 x3) (View.readAt (Elt F) arg3.view rectP.toLoadRect (harg3.unread x2))

/-- The run's diagonal is the one told here. -/
theorem diag_eq : kernelRun.sl.r_1088 c arg1 harg1 arg2 harg2 arg3 harg3 arg4 harg4 x0 x1 x2 x3 = ldD arg1 harg1 arg2 harg2 arg3 harg3 arg4 harg4 x0 x1 x2 x3 := by
  sl_kernel_rfl

variable (i : grid0.Coords)
  (arg5 : Memref sig .tc .vmem S8x128 .i32) (harg5 : arg5.IsWhole) (arg6 : Memref sig .tc .vmem S256x1792 .fp8e4m3) (harg6 : arg6.IsWhole)
  (arg7 : Memref sig .tc .vmem S256x112 .i32) (harg7 : arg7.IsWhole) (arg8 : Memref sig .tc .vmem S1x1x256 .f32) (harg8 : arg8.IsWhole)
  (arg9 : Memref sig .tc .vmem S1792x256 .bf16) (harg9 : arg9.IsWhole) (arg10 : Memref sig .tc .vmem S128x256 .i32) (harg10 : arg10.IsWhole)
  (x4 : Vec F S8x128 .i32) (xs1 : Vec F S128x256 .i32)

/-- What the run stores to the scales. -/
theorem run_scale :
    (kernelRun c i arg1 harg1 arg2 harg2 arg3 harg3 arg4 harg4 arg5 harg5 arg6 harg6 arg7 harg7 arg8 harg8 arg9 harg9 arg10 harg10 x0 x1 x2 x3 x4 xs1).2.2.1
      = [⟨rectZ7, shapeCast S1x1x256 (scaleV (ldM arg1 harg1 arg2 harg2 arg4 harg4 x0 x1 x3)) shapeCasts_S1x256_S1x1x256⟩] := by
  sl_kernel_rfl

/-- What the run stores to the words. -/
theorem run_words :
    (kernelRun c i arg1 harg1 arg2 harg2 arg3 harg3 arg4 harg4 arg5 harg5 arg6 harg6 arg7 harg7 arg8 harg8 arg9 harg9 arg10 harg10 x0 x1 x2 x3 x4 xs1).2.1
      = [⟨rectZ6, words (View.readAt (Elt F) arg10.view rectZ10.toLoadRect
          (arg10.view.writes (Elt F) (harg10.unread xs1) (wordPieces (ldX arg1 harg1 arg2 harg2 x0 x1) (ldA arg4 harg4 x3)).reverse))⟩] := by
  sl_kernel_rfl

/-- What the run stores to the values. -/
theorem run_values :
    (kernelRun c i arg1 harg1 arg2 harg2 arg3 harg3 arg4 harg4 arg5 harg5 arg6 harg6 arg7 harg7 arg8 harg8 arg9 harg9 arg10 harg10 x0 x1 x2 x3 x4 xs1).1
      = (valuePieces (ldD arg1 harg1 arg2 harg2 arg3 harg3 arg4 harg4 x0 x1 x2 x3)
          (fun u => arg9.view.readCov (keptPieces (ldX arg1 harg1 arg2 harg2 x0 x1) (ldA arg4 harg4 x3)).reverse (rectK u).toLoadRect)
          (View.readAt (Elt F) arg5.view rectS.toLoadRect (harg5.unread x4))).reverse := by
  sl_kernel_rfl

end

end Cert.KernelIdeal.Body

end
-- ==== Proof.BlockValue.lean ====
/-
  What the buffers hold after one run of the body: each as one function of the input blocks, whatever the buffers held
  before.
-/
module

public import proofs.«01_k».proof.Proof.Block
public import Idealize.ShloMosaic.Lib.ValueIdxCoords
public import Idealize.ShloMosaic.Lib.WholeRead
public import Idealize.ShloMosaic.Lib.ValueLayout

@[expose] public section

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx

variable {F : FTy → Type} [FloatOps F]

variable (X : Fin 14 → FVec F S256x256 .f32) (A : Fin 14 → Fin 4 → Fin 4 → FVec F S16x128 .f32)

/-- The kept weight at row `n` of the scratch and block row `r`. -/
def keptAt (n : Fin 1792) (r : Fin 256) : F .bf16 :=
  kept (X ⟨n.val / 128, by omega⟩) (A ⟨n.val / 128, by omega⟩) ⟨r.val / 128, by omega⟩ ⟨n.val % 128 / 32, by omega⟩
    ⟨n.val % 32 / 16, by omega⟩ (ix2 (⟨n.val % 16, by omega⟩ : Fin 16) (⟨r.val % 128, by omega⟩ : Fin 128))

/-- The word at row `p` of the scratch and block row `r` (nothing is stored from row 112 on). -/
def wordAt (p : Fin 128) (r : Fin 256) : BitVec 32 :=
  if h : p.val < 112 then
    word (X ⟨p.val / 8, by omega⟩) (A ⟨p.val / 8, by omega⟩) ⟨r.val / 128, by omega⟩
      (ix2 (⟨p.val % 8, by omega⟩ : Fin 8) (⟨r.val % 128, by omega⟩ : Fin 128))
  else 0#32

/-- The scratch of kept weights, by tile, half, group of rows, place, row and lane. -/
theorem keptAt_emb (t : Fin 14) (l : Fin 2) (jj : Fin 4) (s : Fin 2) (i : Fin 16) (q : Fin 128) (n : Fin 1792) (r : Fin 256)
    (hn : n.val = t.val * 128 + jj.val * 32 + s.val * 16 + i.val) (hr : r.val = l.val * 128 + q.val) :
    keptAt X A n r = kept (X t) (A t) l jj s (ix2 i q) := by
  have h1 : (⟨n.val / 128, by omega⟩ : Fin 14) = t := Fin.ext (by show n.val / 128 = t.val; omega)
  have h2 : (⟨r.val / 128, by omega⟩ : Fin 2) = l := Fin.ext (by show r.val / 128 = l.val; omega)
  have h3 : (⟨n.val % 128 / 32, by omega⟩ : Fin 4) = jj := Fin.ext (by show n.val % 128 / 32 = jj.val; omega)
  have h4 : (⟨n.val % 32 / 16, by omega⟩ : Fin 2) = s := Fin.ext (by show n.val % 32 / 16 = s.val; omega)
  have h5 : (⟨n.val % 16, by omega⟩ : Fin 16) = i := Fin.ext (by show n.val % 16 = i.val; omega)
  have h6 : (⟨r.val % 128, by omega⟩ : Fin 128) = q := Fin.ext (by show r.val % 128 = q.val; omega)
  unfold keptAt; rw [h1, h2, h3, h4, h5, h6]

/-- The scratch of words, by tile, half, row and lane. -/
theorem wordAt_emb (t : Fin 14) (l : Fin 2) (i : Fin 8) (q : Fin 128) (p : Fin 128) (r : Fin 256)
    (hp : p.val = t.val * 8 + i.val) (hr : r.val = l.val * 128 + q.val) :
    wordAt X A p r = word (X t) (A t) l (ix2 i q) := by
  have h0 : p.val < 112 := by omega
  have h1 : (⟨p.val / 8, by omega⟩ : Fin 14) = t := Fin.ext (by show p.val / 8 = t.val; omega)
  have h2 : (⟨r.val / 128, by omega⟩ : Fin 2) = l := Fin.ext (by show r.val / 128 = l.val; omega)
  have h5 : (⟨p.val % 8, by omega⟩ : Fin 8) = i := Fin.ext (by show p.val % 8 = i.val; omega)
  have h6 : (⟨r.val % 128, by omega⟩ : Fin 128) = q := Fin.ext (by show r.val % 128 = q.val; omega)
  unfold wordAt; rw [dif_pos h0, h1, h2, h5, h6]

/-- An index within the bounds on every axis lies in the rectangle. -/
theorem mem_rect {s : Shape} (off size : Fin s.rank → Nat) (inb : ∀ a, off a + size a ≤ s.size a) {y : s.Idx}
    (h : ∀ a, off a ≤ (y a).val ∧ (y a).val < off a + size a) : y ∈ (Rect.unit (s := s) off size inb).set :=
  Rect.mem_set_unit.mpr h

/-- Every tile is listed. -/
theorem mem_tiles (t : Fin 14) : t ∈ tiles := by revert t; decide
/-- Both halves are listed. -/
theorem mem_two (l : Fin 2) : l ∈ [(0 : Fin 2), 1] := by revert l; decide
/-- All four groups of rows are listed. -/
theorem mem_four (l : Fin 4) : l ∈ [(0 : Fin 4), 1, 2, 3] := by revert l; decide
/-- All seven tiles of kept weights are listed. -/
theorem mem_seven (l : Fin 7) : l ∈ [(0 : Fin 7), 1, 2, 3, 4, 5, 6] := by revert l; decide

/-- A piece of kept weights is one of the indexed ones. -/
theorem mem_keptPieces {p : View.Piece (Elt F) S1792x256 .bf16} :
    p ∈ (keptPieces X A).reverse ↔ ∃ t l jj s, p = ⟨rectV t l jj s, shapeCast S16x128 (kept (X t) (A t) l jj s) shapeCasts_S16x128_S16x128⟩ := by
  simp only [keptPieces, List.mem_reverse, List.mem_flatMap, List.mem_map]
  constructor
  · rintro ⟨t, _, l, _, jj, _, s, _, rfl⟩; exact ⟨t, l, jj, s, rfl⟩
  · rintro ⟨t, l, jj, s, rfl⟩; exact ⟨t, mem_tiles t, l, mem_two l, jj, mem_four jj, s, mem_two s, rfl⟩

/-- A piece of words is one of the indexed ones. -/
theorem mem_wordPieces {p : View.Piece (Elt F) S128x256 .i32} :
    p ∈ (wordPieces X A).reverse ↔ ∃ t l, p = ⟨rectM t l, word (X t) (A t) l⟩ := by
  simp only [wordPieces, List.mem_reverse, List.mem_flatMap, List.mem_map]
  constructor
  · rintro ⟨t, _, l, _, rfl⟩; exact ⟨t, l, rfl⟩
  · rintro ⟨t, l, rfl⟩; exact ⟨t, mem_tiles t, l, mem_two l, rfl⟩

section
variable {sig' : RefSig} {κ : Kind} {sp : Space}

/-- The scratch of kept weights, read after the stores. -/
theorem read_kept (v : View sig' κ sp S1792x256 .bf16) (f : v.ty.Contents (Elt F)) (y : S1792x256.Idx) :
    v.read (Elt F) (v.writes (Elt F) f (keptPieces X A).reverse) y = keptAt X A (y 0) (y 1) := by
  refine View.read_writes_apply_of_pieces v f (fun y => keptAt X A (y 0) (y 1)) _ ?_ y ?_
  · intro p hp x
    obtain ⟨t, l, jj, s, rfl⟩ := (mem_keptPieces X A).mp hp
    obtain ⟨i, q, rfl⟩ : ∃ (i : Fin 16) (q : Fin 128), x = ix2 i q := ⟨x 0, x 1, eq_ix2 x⟩
    refine (congrFun (shapeCast_self _ _) _).trans ?_
    refine (keptAt_emb X A t l jj s i q _ _ ?_ ?_).symm
    · show t.val * 128 + jj.val * 32 + s.val * 16 + 1 * i.val = _; omega
    · show l.val * 128 + 1 * q.val = _; omega
  · have h0 : (y 0).val < 1792 := (y 0).isLt
    have h1 : (y 1).val < 256 := (y 1).isLt
    refine ⟨_, (mem_keptPieces X A).mpr ⟨⟨(y 0).val / 128, by omega⟩, ⟨(y 1).val / 128, by omega⟩, ⟨(y 0).val % 128 / 32, by omega⟩,
      ⟨(y 0).val % 32 / 16, by omega⟩, rfl⟩, ?_⟩
    refine mem_rect _ _ (inbV _ _ _ _) fun a => ?_
    match a with
    | ⟨0, _⟩ =>
      show (y 0).val / 128 * 128 + (y 0).val % 128 / 32 * 32 + (y 0).val % 32 / 16 * 16 ≤ (y 0).val
        ∧ (y 0).val < (y 0).val / 128 * 128 + (y 0).val % 128 / 32 * 32 + (y 0).val % 32 / 16 * 16 + 16
      omega
    | ⟨1, _⟩ => show (y 1).val / 128 * 128 ≤ (y 1).val ∧ (y 1).val < (y 1).val / 128 * 128 + 128; omega

/-- The scratch of words, read after the stores at a row below 112. -/
theorem read_word (v : View sig' κ sp S128x256 .i32) (f : v.ty.Contents (Elt F)) (y : S128x256.Idx) (hy : (y 0).val < 112) :
    v.read (Elt F) (v.writes (Elt F) f (wordPieces X A).reverse) y = wordAt X A (y 0) (y 1) := by
  refine View.read_writes_apply_of_pieces v f (fun y => wordAt X A (y 0) (y 1)) _ ?_ y ?_
  · intro p hp x
    obtain ⟨t, l, rfl⟩ := (mem_wordPieces X A).mp hp
    obtain ⟨i, q, rfl⟩ : ∃ (i : Fin 8) (q : Fin 128), x = ix2 i q := ⟨x 0, x 1, eq_ix2 x⟩
    refine (wordAt_emb X A t l i q _ _ ?_ ?_).symm
    · show t.val * 8 + 1 * i.val = _; omega
    · show l.val * 128 + 1 * q.val = _; omega
  · have h1 : (y 1).val < 256 := (y 1).isLt
    refine ⟨_, (mem_wordPieces X A).mpr ⟨⟨(y 0).val / 8, by omega⟩, ⟨(y 1).val / 128, by omega⟩, rfl⟩, ?_⟩
    refine mem_rect _ _ (inbM _ _) fun a => ?_
    match a with
    | ⟨0, _⟩ => show (y 0).val / 8 * 8 ≤ (y 0).val ∧ (y 0).val < (y 0).val / 8 * 8 + 8; omega
    | ⟨1, _⟩ => show (y 1).val / 128 * 128 ≤ (y 1).val ∧ (y 1).val < (y 1).val / 128 * 128 + 128; omega

end

/-- A tile of the scratch of kept weights. -/
def keptTile (u : Fin 7) : FVec F S256x256 .bf16 := fun y =>
  keptAt X A ⟨u.val * 256 + (y 0).val, by have : (y 0).val < 256 := (y 0).isLt; omega⟩ (y 1)

/-- The words that leave the block. -/
def outWords : Vec F S256x112 .i32 := fun y =>
  wordAt X A ⟨(y 1).val, by have : (y 1).val < 112 := (y 1).isLt; omega⟩ (y 0)

variable (D : FVec F S256x256 .bf16) (V : Fin 7 → FVec F S256x256 .bf16) (src : IVec S1x128 32)

/-- The values that leave the block. -/
def outValueAt (r : Fin 256) (n : Fin 1792) : F .fp8e4m3 :=
  gath (quant D (V ⟨n.val / 256, by omega⟩)) src ⟨n.val % 256 / 128, by omega⟩
    (ix2 r (⟨n.val % 128, by omega⟩ : Fin 128))

/-- The values that leave the block. -/
def outValues : Vec F S256x1792 .fp8e4m3 := fun y => outValueAt D V src (y 0) (y 1)

/-- A piece of values is one of the indexed ones. -/
theorem mem_valuePieces {p : View.Piece (Elt F) S256x1792 .fp8e4m3} :
    p ∈ (valuePieces D V src).reverse ↔ ∃ u h, p = ⟨rectY u h, gath (quant D (V u)) src h⟩ := by
  simp only [valuePieces, List.mem_reverse, List.mem_flatMap, List.mem_map]
  constructor
  · rintro ⟨t, _, l, _, rfl⟩; exact ⟨t, l, rfl⟩
  · rintro ⟨t, l, rfl⟩; exact ⟨t, mem_seven t, l, mem_two l, rfl⟩

/-- The values, by tile, half, row and lane. -/
theorem outValues_emb (u : Fin 7) (h : Fin 2) (r : Fin 256) (q : Fin 128) (n : Fin 1792)
    (h1 : n.val = u.val * 256 + h.val * 128 + q.val) : outValueAt D V src r n = gath (quant D (V u)) src h (ix2 r q) := by
  have e1 : (⟨n.val / 256, by omega⟩ : Fin 7) = u := Fin.ext (by show n.val / 256 = u.val; omega)
  have e2 : (⟨n.val % 256 / 128, by omega⟩ : Fin 2) = h := Fin.ext (by show n.val % 256 / 128 = h.val; omega)
  have e3 : (⟨n.val % 128, by omega⟩ : Fin 128) = q := Fin.ext (by show n.val % 128 = q.val; omega)
  unfold outValueAt; rw [e1, e2, e3]

/-- The values' buffer, read after the stores. -/
theorem read_values {sig' : RefSig} {κ : Kind} {sp : Space} (v : View sig' κ sp S256x1792 .fp8e4m3) (f : v.ty.Contents (Elt F)) :
    v.read (Elt F) (v.writes (Elt F) f (valuePieces D V src).reverse) = outValues D V src := by
  funext y
  refine View.read_writes_apply_of_pieces v f (outValues D V src) _ ?_ y ?_
  · intro p hp x
    obtain ⟨u, h, rfl⟩ := (mem_valuePieces D V src).mp hp
    obtain ⟨i, q, rfl⟩ : ∃ (i : Fin 256) (q : Fin 128), x = ix2 i q := ⟨x 0, x 1, eq_ix2 x⟩
    have e0 : ((rectY u h).emb (ix2 i q)) 0 = i := Fin.ext (by show 0 + 1 * i.val = _; omega)
    refine (outValues_emb D V src u h i q ((rectY u h).emb (ix2 i q) 1) ?_).symm.trans (congrArg (fun r => outValueAt D V src r _) e0.symm)
    show u.val * 256 + h.val * 128 + 1 * q.val = _; omega
  · have h1 : (y 1).val < 1792 := (y 1).isLt
    have h0 : (y 0).val < 256 := (y 0).isLt
    refine ⟨_, (mem_valuePieces D V src).mpr ⟨⟨(y 1).val / 256, by omega⟩, ⟨(y 1).val % 256 / 128, by omega⟩, rfl⟩, ?_⟩
    refine mem_rect _ _ (inbY _ _) fun a => ?_
    match a with
    | ⟨0, _⟩ => show 0 ≤ (y 0).val ∧ (y 0).val < 0 + 256; omega
    | ⟨1, _⟩ =>
      show (y 1).val / 256 * 256 + (y 1).val % 256 / 128 * 128 ≤ (y 1).val
        ∧ (y 1).val < (y 1).val / 256 * 256 + (y 1).val % 256 / 128 * 128 + 128
      omega

/-! ## The run -/

/-- The permuted tiles of a block. -/
def blkX (x0 : Vec F S256x3584 .bf16) (x1 : Vec F S256x256 .bf16) (t : Fin 14) : FVec F S256x256 .f32 :=
  xt (fun y => x1 (rectP.idx y)) (fun y => x0 ((rectW t).idx y))

/-- The activation norms of sixteen groups' members. -/
def blkA (x3 : Vec F S3584x128 .f32) (t : Fin 14) (jj cc : Fin 4) : FVec F S16x128 .f32 := fun y => x3 ((rectA t jj cc).idx y)

/-- A row's largest kept magnitude over 448. -/
def blkM (x0 : Vec F S256x3584 .bf16) (x1 : Vec F S256x256 .bf16) (x3 : Vec F S3584x128 .f32) : FVec F S1x256 .f32 :=
  over448 (amax (blkX x0 x1) (blkA x3) 0) (amax (blkX x0 x1) (blkA x3) 1)

/-- The values of a block. -/
def blkValues (x0 : Vec F S256x3584 .bf16) (x1 x2 : Vec F S256x256 .bf16) (x3 : Vec F S3584x128 .f32) (x4 : Vec F S8x128 .i32) :
    Vec F S256x1792 .fp8e4m3 :=
  outValues (diag (blkM x0 x1 x3) (fun y => x2 (rectP.idx y))) (keptTile (blkX x0 x1) (blkA x3)) (fun y => x4 (rectS.idx y))

/-- The words of a block. -/
def blkWords (x0 : Vec F S256x3584 .bf16) (x1 : Vec F S256x256 .bf16) (x3 : Vec F S3584x128 .f32) : Vec F S256x112 .i32 :=
  outWords (blkX x0 x1) (blkA x3)

/-- The scales of a block. -/
def blkScale (x0 : Vec F S256x3584 .bf16) (x1 : Vec F S256x256 .bf16) (x3 : Vec F S3584x128 .f32) : Vec F S1x1x256 .f32 :=
  shapeCast S1x1x256 (scaleV (blkM x0 x1 x3)) shapeCasts_S1x256_S1x1x256

section
variable (c : Dev nD) (arg1 : Memref sig .tc .vmem S256x3584 .bf16) (harg1 : arg1.IsWhole)
  (arg2 : Memref sig .tc .vmem S256x256 .bf16) (harg2 : arg2.IsWhole) (arg3 : Memref sig .tc .vmem S256x256 .bf16) (harg3 : arg3.IsWhole)
  (arg4 : Memref sig .tc .vmem S3584x128 .f32) (harg4 : arg4.IsWhole)
  (x0 : Vec F S256x3584 .bf16) (x1 x2 : Vec F S256x256 .bf16) (x3 : Vec F S3584x128 .f32)

/-- The loaded factors' tiles are the blocks' tiles. -/
theorem ldX_eq : ldX arg1 harg1 arg2 harg2 x0 x1 = blkX x0 x1 := by
  funext t; unfold ldX blkX
  exact congrArg₂ xt (funext fun y => harg2.readAt_unread _ _ y) (funext fun y => harg1.readAt_unread _ _ y)

/-- The loaded norms are the block's norms. -/
theorem ldA_eq : ldA arg4 harg4 x3 = blkA x3 := by
  funext t jj cc y; exact harg4.readAt_unread _ (rectA t jj cc).toLoadRect y

/-- The largest magnitude from the loads is that from the blocks. -/
theorem ldM_eq : ldM arg1 harg1 arg2 harg2 arg4 harg4 x0 x1 x3 = blkM x0 x1 x3 := by
  unfold ldM blkM; rw [ldX_eq, ldA_eq]

variable (i : grid0.Coords)
  (arg5 : Memref sig .tc .vmem S8x128 .i32) (harg5 : arg5.IsWhole) (arg6 : Memref sig .tc .vmem S256x1792 .fp8e4m3) (harg6 : arg6.IsWhole)
  (arg7 : Memref sig .tc .vmem S256x112 .i32) (harg7 : arg7.IsWhole) (arg8 : Memref sig .tc .vmem S1x1x256 .f32) (harg8 : arg8.IsWhole)
  (arg9 : Memref sig .tc .vmem S1792x256 .bf16) (harg9 : arg9.IsWhole) (arg10 : Memref sig .tc .vmem S128x256 .i32) (harg10 : arg10.IsWhole)
  (x4 : Vec F S8x128 .i32) (xs1 : Vec F S128x256 .i32)

/-- The values' buffer after the run. -/
theorem read_run_values {sig' : RefSig} {κ : Kind} {sp : Space} (v : View sig' κ sp S256x1792 .fp8e4m3) (f : v.ty.Contents (Elt F)) :
    v.read (Elt F) (v.writes (Elt F) f (kernelRun c i arg1 harg1 arg2 harg2 arg3 harg3 arg4 harg4 arg5 harg5 arg6 harg6 arg7 harg7 arg8 harg8 arg9 harg9 arg10 harg10 x0 x1 x2 x3 x4 xs1).1)
      = blkValues x0 x1 x2 x3 x4 := by
  rw [run_values, read_values]
  unfold blkValues
  have e1 : ldD arg1 harg1 arg2 harg2 arg3 harg3 arg4 harg4 x0 x1 x2 x3 = diag (blkM x0 x1 x3) (fun y => x2 (rectP.idx y)) := by
    unfold ldD; rw [ldM_eq]
    exact congrArg _ (funext fun y => harg3.readAt_unread _ _ y)
  have e2 : (fun u => arg9.view.readCov (keptPieces (ldX arg1 harg1 arg2 harg2 x0 x1) (ldA arg4 harg4 x3)).reverse (rectK u).toLoadRect)
      = keptTile (blkX x0 x1) (blkA x3) := by
    rw [ldX_eq, ldA_eq]
    funext u y
    refine (read_kept (blkX x0 x1) (blkA x3) arg9.view _ _).trans ?_
    unfold keptTile
    refine congrArg₂ (keptAt (blkX x0 x1) (blkA x3)) (Fin.ext ?_) (Fin.ext ?_)
    · show u.val * 256 + 1 * (y 0).val = _; rw [Nat.one_mul]
    · show 0 + 1 * (y 1).val = _; omega
  have e3 : View.readAt (Elt F) arg5.view rectS.toLoadRect (harg5.unread x4) = (fun y => x4 (rectS.idx y)) :=
    funext fun y => harg5.readAt_unread _ _ y
  exact congr (congrArg₂ outValues e1 e2) e3

/-- The words' buffer after the run. -/
theorem read_run_words {sig' : RefSig} {κ : Kind} {sp : Space} (v : View sig' κ sp S256x112 .i32) (f : v.ty.Contents (Elt F)) :
    v.read (Elt F) (v.writes (Elt F) f (kernelRun c i arg1 harg1 arg2 harg2 arg3 harg3 arg4 harg4 arg5 harg5 arg6 harg6 arg7 harg7 arg8 harg8 arg9 harg9 arg10 harg10 x0 x1 x2 x3 x4 xs1).2.1)
      = blkWords x0 x1 x3 := by
  rw [run_words, ldX_eq, ldA_eq]
  funext y
  have h0 : (y 0).val < 256 := (y 0).isLt
  have h1 : (y 1).val < 112 := (y 1).isLt
  refine View.read_writes_apply_of_pieces v f (blkWords x0 x1 x3) _ ?_ y ⟨_, List.mem_singleton_self _, ?_⟩
  · intro p hp x
    obtain rfl := List.mem_singleton.mp hp
    obtain ⟨r, q, rfl⟩ : ∃ (r : Fin 256) (q : Fin 112), x = ix2 r q := ⟨x 0, x 1, eq_ix2 x⟩
    have hx : rectZ6.emb (ix2 r q) = ix2 r q := by
      funext a; apply Fin.ext
      match a with
      | ⟨0, _⟩ => show 0 + 1 * r.val = r.val; omega
      | ⟨1, _⟩ => show 0 + 1 * q.val = q.val; omega
    rw [hx]
    have e : words (View.readAt (Elt F) arg10.view rectZ10.toLoadRect
        (arg10.view.writes (Elt F) (harg10.unread xs1) (wordPieces (blkX x0 x1) (blkA x3)).reverse)) (ix2 r q)
        = arg10.view.read (Elt F) (arg10.view.writes (Elt F) (harg10.unread xs1) (wordPieces (blkX x0 x1) (blkA x3)).reverse)
          (ix2 (⟨q.val, by omega⟩ : Fin 128) r) := by
      unfold words
      rw [extractStridedSlice_apply _ _ _ _ (ix2 r (⟨q.val, by omega⟩ : Fin 128)) (by
        intro a
        match a with
        | ⟨0, _⟩ => show r.val = 0 + r.val; omega
        | ⟨1, _⟩ => show q.val = 0 + q.val; omega)]
      rw [transpose_ix2_apply, View.readAt_apply]
      refine congrArg _ ?_
      funext a; apply Fin.ext
      match a with
      | ⟨0, _⟩ => show 0 + 1 * q.val = q.val; omega
      | ⟨1, _⟩ => show 0 + 1 * r.val = r.val; omega
    refine e.trans ?_
    rw [read_word _ _ _ _ _ (show q.val < 112 from q.isLt)]
    rfl
  · refine mem_rect _ _ inbZ6 fun a => ?_
    match a with
    | ⟨0, _⟩ => show 0 ≤ (y 0).val ∧ (y 0).val < 0 + 256; omega
    | ⟨1, _⟩ => show 0 ≤ (y 1).val ∧ (y 1).val < 0 + 112; omega

/-- The scales' buffer after the run. -/
theorem read_run_scale {sig' : RefSig} {κ : Kind} {sp : Space} (v : View sig' κ sp S1x1x256 .f32) (f : v.ty.Contents (Elt F)) :
    v.read (Elt F) (v.writes (Elt F) f (kernelRun c i arg1 harg1 arg2 harg2 arg3 harg3 arg4 harg4 arg5 harg5 arg6 harg6 arg7 harg7 arg8 harg8 arg9 harg9 arg10 harg10 x0 x1 x2 x3 x4 xs1).2.2.1)
      = blkScale x0 x1 x3 := by
  rw [run_scale, ldM_eq]
  funext y
  have h2 : (y 2).val < 256 := (y 2).isLt
  have h1 : (y 1).val < 1 := (y 1).isLt
  have h0 : (y 0).val < 1 := (y 0).isLt
  refine View.read_writes_apply_of_pieces v f (blkScale x0 x1 x3) _ ?_ y ⟨_, List.mem_singleton_self _, ?_⟩
  · intro p hp x
    obtain rfl := List.mem_singleton.mp hp
    refine congrArg (blkScale x0 x1 x3) ?_
    funext a; apply Fin.ext
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  · refine mem_rect _ _ inbZ7 fun a => ?_
    match a with
    | ⟨0, _⟩ => show 0 ≤ (y 0).val ∧ (y 0).val < 0 + 1; omega
    | ⟨1, _⟩ => show 0 ≤ (y 1).val ∧ (y 1).val < 0 + 1; omega
    | ⟨2, _⟩ => show 0 ≤ (y 2).val ∧ (y 2).val < 0 + 256; omega

end

end Cert.KernelIdeal.Body

end
-- ==== Proof.KernelIdealFrame.lean ====
/-
  The idealized kernel's run: what every grid point leaves in the outputs' buffers, as functions of the blocks of the
  inputs (`blkValues`, `blkWords`, `blkScale`), the body's obligation, and the run of the program.
-/
module

public import proofs.«01_k».proof.Proof.BlockValue
public import Idealize.ShloMosaic.Lib.Claim
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S256x3584 .bf16 := win0_0.stage (cfg0.slots t 0)
/-- It is whole. -/
abbrev hs0_0 (t : Fin cfg0.N) : (ms0_0 t).IsWhole := hstage0_0 ((cfg0.slots t 0).cast nbuf0_0)
/-- The staging buffer of the permutation's window at a grid point. -/
abbrev ms0_1 (t : Fin cfg0.N) : Memref sig .tc .vmem S256x256 .bf16 := win0_1.stage (cfg0.slots t 1)
/-- It is whole. -/
abbrev hs0_1 (t : Fin cfg0.N) : (ms0_1 t).IsWhole := hstage0_1 ((cfg0.slots t 1).cast nbuf0_1)
/-- The staging buffer of the unit diagonal's window at a grid point. -/
abbrev ms0_2 (t : Fin cfg0.N) : Memref sig .tc .vmem S256x256 .bf16 := win0_2.stage (cfg0.slots t 2)
/-- It is whole. -/
abbrev hs0_2 (t : Fin cfg0.N) : (ms0_2 t).IsWhole := hstage0_2 ((cfg0.slots t 2).cast nbuf0_2)
/-- The staging buffer of the norms' window at a grid point. -/
abbrev ms0_3 (t : Fin cfg0.N) : Memref sig .tc .vmem S3584x128 .f32 := win0_3.stage (cfg0.slots t 3)
/-- It is whole. -/
abbrev hs0_3 (t : Fin cfg0.N) : (ms0_3 t).IsWhole := hstage0_3 ((cfg0.slots t 3).cast nbuf0_3)
/-- The staging buffer of the lane sources' window at a grid point. -/
abbrev ms0_4 (t : Fin cfg0.N) : Memref sig .tc .vmem S8x128 .i32 := win0_4.stage (cfg0.slots t 4)
/-- It is whole. -/
abbrev hs0_4 (t : Fin cfg0.N) : (ms0_4 t).IsWhole := hstage0_4 ((cfg0.slots t 4).cast nbuf0_4)
/-- The staging buffer of the values' window at a grid point. -/
abbrev ms0_5 (t : Fin cfg0.N) : Memref sig .tc .vmem S256x1792 .fp8e4m3 := win0_5.stage (cfg0.slots t 5)
/-- It is whole. -/
abbrev hs0_5 (t : Fin cfg0.N) : (ms0_5 t).IsWhole := hstage0_5 ((cfg0.slots t 5).cast nbuf0_5)
/-- The staging buffer of the words' window at a grid point. -/
abbrev ms0_6 (t : Fin cfg0.N) : Memref sig .tc .vmem S256x112 .i32 := win0_6.stage (cfg0.slots t 6)
/-- It is whole. -/
abbrev hs0_6 (t : Fin cfg0.N) : (ms0_6 t).IsWhole := hstage0_6 ((cfg0.slots t 6).cast nbuf0_6)
/-- The staging buffer of the scales' window at a grid point. -/
abbrev ms0_7 (t : Fin cfg0.N) : Memref sig .tc .vmem S1x1x256 .f32 := win0_7.stage (cfg0.slots t 7)
/-- It is whole. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1792x256 .bf16 := Memref.whole cc0_scratch0
/-- The scratch of words. -/
abbrev scM0_1 : Memref sig .tc .vmem S128x256 .i32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The pipeline's proof data -/

/-- The proof data of the one pipeline on core `c`: the arrays as the region finds them (`V`); after the body at
    point `t` each input's buffer at its block and the outputs' at their block functions; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blkValues (iblk m c 0 t) (iblk m c 1 t) (iblk m c 2 t) (iblk m c 3 t) (iblk m c 4 t)
    | ⟨6, _⟩ => blkWords (iblk m c 0 t) (iblk m c 1 t) (iblk m c 3 t)
    | ⟨7, _⟩ => blkScale (iblk m c 0 t) (iblk m c 1 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the permutation's buffer holds after the body. -/
theorem after0_1 (c : Dev nD) (t : Fin cfg0.N) : (dats m 0 c).after 1 t = iblk m c 1 t := by dsimp only [dats]
/-- What the unit diagonal's buffer holds after the body. -/
theorem after0_2 (c : Dev nD) (t : Fin cfg0.N) : (dats m 0 c).after 2 t = iblk m c 2 t := by dsimp only [dats]
/-- What the norms' buffer holds after the body. -/
theorem after0_3 (c : Dev nD) (t : Fin cfg0.N) : (dats m 0 c).after 3 t = iblk m c 3 t := by dsimp only [dats]
/-- What the lane sources' buffer holds after the body. -/
theorem after0_4 (c : Dev nD) (t : Fin cfg0.N) : (dats m 0 c).after 4 t = iblk m c 4 t := by dsimp only [dats]
/-- What the values' buffer holds after the body. -/
theorem after0_5 (c : Dev nD) (t : Fin cfg0.N) : (dats m 0 c).after 5 t = blkValues (iblk m c 0 t) (iblk m c 1 t) (iblk m c 2 t) (iblk m c 3 t) (iblk m c 4 t) := by dsimp only [dats]
/-- What the words' buffer holds after the body. -/
theorem after0_6 (c : Dev nD) (t : Fin cfg0.N) : (dats m 0 c).after 6 t = blkWords (iblk m c 0 t) (iblk m c 1 t) (iblk m c 3 t) := by dsimp only [dats]
/-- What the scales' buffer holds after the body. -/
theorem after0_7 (c : Dev nD) (t : Fin cfg0.N) : (dats m 0 c).after 7 t = blkScale (iblk m c 0 t) (iblk m c 1 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What the permutation's buffer holds before the body. -/
theorem before0_1 (c : Dev nD) (t : Fin cfg0.N) (d) : (dats m 0 c).before 1 t d = iblk m c 1 t :=
  before0_1_of m (dats m 0 c) (A_eq m c 1) (after0_1 m c) t d
/-- What the unit diagonal's buffer holds before the body. -/
theorem before0_2 (c : Dev nD) (t : Fin cfg0.N) (d) : (dats m 0 c).before 2 t d = iblk m c 2 t :=
  before0_2_of m (dats m 0 c) (A_eq m c 2) (after0_2 m c) t d
/-- What the norms' buffer holds before the body. -/
theorem before0_3 (c : Dev nD) (t : Fin cfg0.N) (d) : (dats m 0 c).before 3 t d = iblk m c 3 t :=
  before0_3_of m (dats m 0 c) (A_eq m c 3) (after0_3 m c) t d
/-- What the lane sources' buffer holds before the body. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, ⟨%xs1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (grid0.coords t) _ _ _ _ _ _ _ _ _ _ _ _ _ _ _ _ _ _ _ _ (iblk m c 0 t) (iblk m c 1 t) (iblk m c 2 t) (iblk m c 3 t) (iblk m c 4 t) xs1).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, ⟨%e5, H5⟩, ⟨%e6, H6⟩, ⟨%e7, H7⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact read_run_values _ _ _ _ _ _ _ _ _ _ _ _ _ _ _ _ _ _ _ _ _ _ _ _ _ _ _ _ _ _
  isplitl [H6]
  · unfold owns; iexists _; isplitr
    swap; · iexact H6
    ipureintro; exact read_run_words _ _ _ _ _ _ _ _ _ _ _ _ _ _ _ _ _ _ _ _ _ _ _ _ _ _ _ _ _ _
  unfold owns; iexists _; isplitr
  swap; · iexact H7
  ipureintro; exact read_run_scale _ _ _ _ _ _ _ _ _ _ _ _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- `Cert.quiescent_KernelIdeal`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

/-! ## The arrays after the run -/

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v16_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v16_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v16_2) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v16_0) = (dats m 0 c).arrAt 5 cfg0.N
      ∧ r.2.mem ((c : Thread nD τ).loc main_v16_1) = (dats m 0 c).arrAt 6 cfg0.N
      ∧ r.2.mem ((c : Thread nD τ).loc main_v16_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post5 m r h c,
      post6 m r h c,
      post7 m r h c,
      kept_main_arg0 m r h c,
      kept_main_arg1 m r h c⟩)
    (run_main m ρ)

end Cert.KernelIdeal.Body

end
-- ==== Proof.KernelIdealValue.lean ====
/-
  The idealized kernel's output arrays after the run, each as one function of what the inputs hold when the region is
  entered: row `i` lies in block `i / 256`.
-/
module

public import proofs.«01_k».proof.Proof.KernelIdealFrame

@[expose] public section

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The blocks -/

/-- Where the weights' block lies at a grid point. -/
theorem index0 : ∀ t : Fin cfg0.N, win0_0.index t 0 = t.val ∧ win0_0.index t 1 = 0 :=
  (by decide +kernel : ∀ t : Fin grid0.N, win0_0.index t 0 = t.val ∧ win0_0.index t 1 = 0)
/-- Where the permutation's block lies at a grid point. -/
theorem index1 : ∀ t : Fin cfg0.N, win0_1.index t 0 = 0 ∧ win0_1.index t 1 = 0 :=
  (by decide +kernel : ∀ t : Fin grid0.N, win0_1.index t 0 = 0 ∧ win0_1.index t 1 = 0)
/-- Where the unit diagonal's block lies at a grid point. -/
theorem index2 : ∀ t : Fin cfg0.N, win0_2.index t 0 = 0 ∧ win0_2.index t 1 = 0 :=
  (by decide +kernel : ∀ t : Fin grid0.N, win0_2.index t 0 = 0 ∧ win0_2.index t 1 = 0)
/-- Where the norms' block lies at a grid point. -/
theorem index3 : ∀ t : Fin cfg0.N, win0_3.index t 0 = 0 ∧ win0_3.index t 1 = 0 :=
  (by decide +kernel : ∀ t : Fin grid0.N, win0_3.index t 0 = 0 ∧ win0_3.index t 1 = 0)
/-- Where the lane sources' block lies at a grid point. -/
theorem index4 : ∀ t : Fin cfg0.N, win0_4.index t 0 = 0 ∧ win0_4.index t 1 = 0 :=
  (by decide +kernel : ∀ t : Fin grid0.N, win0_4.index t 0 = 0 ∧ win0_4.index t 1 = 0)
/-- Where the values' block lies at a grid point. -/
theorem index5 : ∀ t : Fin cfg0.N, win0_5.index t 0 = t.val ∧ win0_5.index t 1 = 0 :=
  (by decide +kernel : ∀ t : Fin grid0.N, win0_5.index t 0 = t.val ∧ win0_5.index t 1 = 0)
/-- Where the words' block lies at a grid point. -/
theorem index6 : ∀ t : Fin cfg0.N, win0_6.index t 0 = t.val ∧ win0_6.index t 1 = 0 :=
  (by decide +kernel : ∀ t : Fin grid0.N, win0_6.index t 0 = t.val ∧ win0_6.index t 1 = 0)
/-- Where the scales' block lies at a grid point. -/
theorem index7 : ∀ t : Fin cfg0.N, win0_7.index t 0 = t.val ∧ win0_7.index t 1 = 0 ∧ win0_7.index t 2 = 0 :=
  (by decide +kernel : ∀ t : Fin grid0.N, win0_7.index t 0 = t.val ∧ win0_7.index t 1 = 0 ∧ win0_7.index t 2 = 0)

/-- There are twenty grid points. -/
theorem lt_N (t : Fin cfg0.N) : t.val < 20 := by have h : cfg0.N = 20 := N_0; have := t.isLt; omega

/-- The weights of a block. -/
def weights (c : Dev nD) (t : Fin 20) : Vec F S256x3584 .bf16 := fun y =>
  m ((c : Thread nD τ).loc main_arg0)
    (ix2 (⟨t.val * 256 + (y 0).val, by have : (y 0).val < 256 := (y 0).isLt; omega⟩ : Fin 5120) (y 1))

/-- What the weights' block holds at a grid point. -/
theorem iblk0 (c : Dev nD) (t : Fin cfg0.N) : iblk m c 0 t = weights m c ⟨t.val, lt_N t⟩ := by
  funext y
  obtain ⟨i0, i1⟩ := index0 t
  unfold iblk weights
  rw [View.read_apply]
  refine (congrArg (V m c (Pipeline.arrRef spec0 0)) ?_).trans (congrFun (V_main_arg0 m c) _)
  funext a; apply Fin.ext
  match a with
  | ⟨0, _⟩ => show win0_0.index t 0 * 256 + 1 * (y 0).val = t.val * 256 + (y 0).val; rw [i0]; omega
  | ⟨1, _⟩ => show win0_0.index t 1 * 256 + 1 * (y 1).val = (y 1).val; rw [i1]; omega

/-- What the permutation's block holds at a grid point. -/
theorem iblk1 (c : Dev nD) (t : Fin cfg0.N) : iblk m c 1 t = (V m c main_cst : Vec F S256x256 .bf16) := by
  funext y
  obtain ⟨i0, i1⟩ := index1 t
  unfold iblk
  rw [View.read_apply]
  refine congrArg (V m c main_cst) ?_
  funext a; apply Fin.ext
  match a with
  | ⟨0, _⟩ => show win0_1.index t 0 * 256 + 1 * (y 0).val = (y 0).val; rw [i0]; omega
  | ⟨1, _⟩ => show win0_1.index t 1 * 256 + 1 * (y 1).val = (y 1).val; rw [i1]; omega

/-- What the unit diagonal's block holds at a grid point. -/
theorem iblk2 (c : Dev nD) (t : Fin cfg0.N) : iblk m c 2 t = (V m c main_v15 : Vec F S256x256 .bf16) := by
  funext y
  obtain ⟨i0, i1⟩ := index2 t
  unfold iblk
  rw [View.read_apply]
  refine congrArg (V m c main_v15) ?_
  funext a; apply Fin.ext
  match a with
  | ⟨0, _⟩ => show win0_2.index t 0 * 256 + 1 * (y 0).val = (y 0).val; rw [i0]; omega
  | ⟨1, _⟩ => show win0_2.index t 1 * 256 + 1 * (y 1).val = (y 1).val; rw [i1]; omega

/-- What the norms' block holds at a grid point. -/
theorem iblk3 (c : Dev nD) (t : Fin cfg0.N) : iblk m c 3 t = (V m c main_v7 : Vec F S3584x128 .f32) := by
  funext y
  obtain ⟨i0, i1⟩ := index3 t
  unfold iblk
  rw [View.read_apply]
  refine congrArg (V m c main_v7) ?_
  funext a; apply Fin.ext
  match a with
  | ⟨0, _⟩ => show win0_3.index t 0 * 3584 + 1 * (y 0).val = (y 0).val; rw [i0]; omega
  | ⟨1, _⟩ => show win0_3.index t 1 * 128 + 1 * (y 1).val = (y 1).val; rw [i1]; omega

/-- What the lane sources' block holds at a grid point. -/
theorem iblk4 (c : Dev nD) (t : Fin cfg0.N) : iblk m c 4 t = (V m c main_v9 : Vec F S8x128 .i32) := by
  funext y
  obtain ⟨i0, i1⟩ := index4 t
  unfold iblk
  rw [View.read_apply]
  refine congrArg (V m c main_v9) ?_
  funext a; apply Fin.ext
  match a with
  | ⟨0, _⟩ => show win0_4.index t 0 * 8 + 1 * (y 0).val = (y 0).val; rw [i0]; omega
  | ⟨1, _⟩ => show win0_4.index t 1 * 128 + 1 * (y 1).val = (y 1).val; rw [i1]; omega

/-! ## The output arrays -/

/-- The values array. -/
def valuesArr (c : Dev nD) : Vec F S5120x1792 .fp8e4m3 := fun i =>
  blkValues (weights m c ⟨(i 0).val / 256, by have : (i 0).val < 5120 := (i 0).isLt; omega⟩) (V m c main_cst) (V m c main_v15) (V m c main_v7)
    (V m c main_v9) (ix2 (⟨(i 0).val % 256, by omega⟩ : Fin 256) (i 1))

/-- The words array. -/
def wordsArr (c : Dev nD) : Vec F S5120x112 .i32 := fun i =>
  blkWords (weights m c ⟨(i 0).val / 256, by have : (i 0).val < 5120 := (i 0).isLt; omega⟩) (V m c main_cst) (V m c main_v7)
    (ix2 (⟨(i 0).val % 256, by omega⟩ : Fin 256) (i 1))

/-- The scales array. -/
def scaleArr (c : Dev nD) : Vec F S20x1x256 .f32 := fun i =>
  blkScale (weights m c (i 0)) (V m c main_cst) (V m c main_v7) (ix3 (0 : Fin 1) (0 : Fin 1) (i 2))

/-- Each of the values' blocks is full along its columns. -/
theorem extent5 : ∀ t : Fin cfg0.N, win0_5.xsize (grid0.coords t) 1 = 1792 :=
  (by decide +kernel : ∀ t : Fin grid0.N, win0_5.xsize (grid0.coords t) 1 = 1792)

/-- Which indices lie in the values' block of a grid point. -/
theorem mem_blk5 (t : Fin cfg0.N) (i : S5120x1792.Idx) :
    i ∈ ((cfg0.win 5).blk t).view.set ↔ t.val * 256 ≤ (i 0).val ∧ (i 0).val < t.val * 256 + 256 := by
  show i ∈ ((View.whole main_v16_0).slice (win0_5.rect t)).set ↔ _
  rw [View.set_slice_whole, Rect.mem_set_unit]
  have h1 : (i 1).val < 1792 := (i 1).isLt
  obtain ⟨e0, e1⟩ := index5 t
  refine ⟨fun h => ?_, fun h a => ?_⟩
  · have : win0_5.index t 0 * 256 ≤ (i 0).val ∧ (i 0).val < win0_5.index t 0 * 256 + 256 := h 0
    rw [e0] at this; exact this
  · match a with
    | ⟨0, _⟩ => show win0_5.index t 0 * 256 ≤ (i 0).val ∧ (i 0).val < win0_5.index t 0 * 256 + 256
                rw [e0]; exact h
    | ⟨1, _⟩ => show win0_5.index t 1 * win0_5.size 1 ≤ (i 1).val ∧ (i 1).val < win0_5.index t 1 * win0_5.size 1 + win0_5.xsize (grid0.coords t) 1
                rw [e1, extent5 t]; omega

/-- Every index of the values' array lies in a block that is written back. -/
theorem cover5 (i : S5120x1792.Idx) : ∃ t : Fin cfg0.N, (cfg0.win 5).flush t = true ∧ i ∈ ((cfg0.win 5).blk t).view.set := by
  have h0 : (i 0).val < 5120 := (i 0).isLt
  have hN : cfg0.N = 20 := N_0
  refine ⟨⟨(i 0).val / 256, by omega⟩, flush0_5 _, ?_⟩
  rw [mem_blk5]; dsimp only; omega

/-- What is written back to the values' array at a grid point. -/
theorem flushed5 (c : Dev nD) (t : Fin cfg0.N) :
    (dats m 0 c).flushed 5 t = ((cfg0.win 5).blk t).view.read (Elt F) (valuesArr m c) := by
  show (cfg0.win 5).cut (grid0.coords t) ((dats m 0 c).after 5 t) = _
  rw [after0_5, iblk0, iblk1, iblk2, iblk3, iblk4]
  funext y
  rw [View.read_apply]
  obtain ⟨e0, e1⟩ := index5 t
  have h0 : (y 0).val < 256 := (y 0).isLt
  have ht := lt_N t
  have r0 : ((((cfg0.win 5).blk t).view.emb y) 0).val = t.val * 256 + (y 0).val := by
    show win0_5.index t 0 * 256 + 1 * (y 0).val = _; rw [e0]; omega
  have r1 : ((((cfg0.win 5).blk t).view.emb y) 1).val = (y 1).val := by
    show win0_5.index t 1 * 1792 + 1 * (y 1).val = _; rw [e1]; omega
  have key : ∀ (z : S5120x1792.Idx), (z 0).val = t.val * 256 + (y 0).val → (z 1).val = (y 1).val →
      blkValues (weights m c ⟨t.val, ht⟩) (V m c main_cst) (V m c main_v15) (V m c main_v7) (V m c main_v9) (ix2 (y 0) (y 1) : S256x1792.Idx) = valuesArr m c z := by
    intro z hz0 hz1
    have hz : (z 0).val < 5120 := (z 0).isLt
    unfold valuesArr
    have q0 : (⟨(z 0).val / 256, by omega⟩ : Fin 20) = ⟨t.val, ht⟩ := Fin.ext (by show (z 0).val / 256 = t.val; omega)
    have q1 : (⟨(z 0).val % 256, by omega⟩ : Fin 256) = y 0 := Fin.ext (by show (z 0).val % 256 = (y 0).val; omega)
    have q2 : z 1 = y 1 := Fin.ext hz1
    rw [q0, q1, q2]
  generalize (((cfg0.win 5).blk t).view.emb y) = z at r0 r1 ⊢
  rw [← key z r0 r1]
  refine congrArg (blkValues (weights m c ⟨t.val, ht⟩) (V m c main_cst) (V m c main_v15) (V m c main_v7) (V m c main_v9)) ?_
  exact (eq_ix2 y)

/-- The values array after the run. -/
theorem final5 (c : Dev nD) : (dats m 0 c).arrAt 5 cfg0.N = valuesArr m c :=
  (dats m 0 c).arrAt_eq_of_cover 5 (valuesArr m c) (fun t _ => flushed5 m c t) cover5

/-- Each of the words' blocks is full along its columns. -/
theorem extent6 : ∀ t : Fin cfg0.N, win0_6.xsize (grid0.coords t) 1 = 112 :=
  (by decide +kernel : ∀ t : Fin grid0.N, win0_6.xsize (grid0.coords t) 1 = 112)

/-- Which indices lie in the words' block of a grid point. -/
theorem mem_blk6 (t : Fin cfg0.N) (i : S5120x112.Idx) :
    i ∈ ((cfg0.win 6).blk t).view.set ↔ t.val * 256 ≤ (i 0).val ∧ (i 0).val < t.val * 256 + 256 := by
  show i ∈ ((View.whole main_v16_1).slice (win0_6.rect t)).set ↔ _
  rw [View.set_slice_whole, Rect.mem_set_unit]
  have h1 : (i 1).val < 112 := (i 1).isLt
  obtain ⟨e0, e1⟩ := index6 t
  refine ⟨fun h => ?_, fun h a => ?_⟩
  · have : win0_6.index t 0 * 256 ≤ (i 0).val ∧ (i 0).val < win0_6.index t 0 * 256 + 256 := h 0
    rw [e0] at this; exact this
  · match a with
    | ⟨0, _⟩ => show win0_6.index t 0 * 256 ≤ (i 0).val ∧ (i 0).val < win0_6.index t 0 * 256 + 256
                rw [e0]; exact h
    | ⟨1, _⟩ => show win0_6.index t 1 * win0_6.size 1 ≤ (i 1).val ∧ (i 1).val < win0_6.index t 1 * win0_6.size 1 + win0_6.xsize (grid0.coords t) 1
                rw [e1, extent6 t]; omega

/-- Every index of the words' array lies in a block that is written back. -/
theorem cover6 (i : S5120x112.Idx) : ∃ t : Fin cfg0.N, (cfg0.win 6).flush t = true ∧ i ∈ ((cfg0.win 6).blk t).view.set := by
  have h0 : (i 0).val < 5120 := (i 0).isLt
  have hN : cfg0.N = 20 := N_0
  refine ⟨⟨(i 0).val / 256, by omega⟩, flush0_6 _, ?_⟩
  rw [mem_blk6]; dsimp only; omega

/-- What is written back to the words' array at a grid point. -/
theorem flushed6 (c : Dev nD) (t : Fin cfg0.N) :
    (dats m 0 c).flushed 6 t = ((cfg0.win 6).blk t).view.read (Elt F) (wordsArr m c) := by
  show (cfg0.win 6).cut (grid0.coords t) ((dats m 0 c).after 6 t) = _
  rw [after0_6, iblk0, iblk1, iblk3]
  funext y
  rw [View.read_apply]
  obtain ⟨e0, e1⟩ := index6 t
  have h0 : (y 0).val < 256 := (y 0).isLt
  have ht := lt_N t
  have r0 : ((((cfg0.win 6).blk t).view.emb y) 0).val = t.val * 256 + (y 0).val := by
    show win0_6.index t 0 * 256 + 1 * (y 0).val = _; rw [e0]; omega
  have r1 : ((((cfg0.win 6).blk t).view.emb y) 1).val = (y 1).val := by
    show win0_6.index t 1 * 112 + 1 * (y 1).val = _; rw [e1]; omega
  have key : ∀ (z : S5120x112.Idx), (z 0).val = t.val * 256 + (y 0).val → (z 1).val = (y 1).val →
      blkWords (weights m c ⟨t.val, ht⟩) (V m c main_cst) (V m c main_v7) (ix2 (y 0) (y 1) : S256x112.Idx) = wordsArr m c z := by
    intro z hz0 hz1
    have hz : (z 0).val < 5120 := (z 0).isLt
    unfold wordsArr
    have q0 : (⟨(z 0).val / 256, by omega⟩ : Fin 20) = ⟨t.val, ht⟩ := Fin.ext (by show (z 0).val / 256 = t.val; omega)
    have q1 : (⟨(z 0).val % 256, by omega⟩ : Fin 256) = y 0 := Fin.ext (by show (z 0).val % 256 = (y 0).val; omega)
    have q2 : z 1 = y 1 := Fin.ext hz1
    rw [q0, q1, q2]
  generalize (((cfg0.win 6).blk t).view.emb y) = z at r0 r1 ⊢
  rw [← key z r0 r1]
  refine congrArg (blkWords (weights m c ⟨t.val, ht⟩) (V m c main_cst) (V m c main_v7)) ?_
  exact (eq_ix2 y)

/-- The words array after the run. -/
theorem final6 (c : Dev nD) : (dats m 0 c).arrAt 6 cfg0.N = wordsArr m c :=
  (dats m 0 c).arrAt_eq_of_cover 6 (wordsArr m c) (fun t _ => flushed6 m c t) cover6

/-- Which indices lie in the scales' block of a grid point. -/
theorem mem_blk7 (t : Fin cfg0.N) (i : S20x1x256.Idx) : i ∈ ((cfg0.win 7).blk t).view.set ↔ (i 0).val = t.val := by
  show i ∈ ((View.whole main_v16_2).slice (win0_7.rect t)).set ↔ _
  rw [View.set_slice_whole, Rect.mem_set_unit]
  have h1 : (i 1).val < 1 := (i 1).isLt
  have h2 : (i 2).val < 256 := (i 2).isLt
  obtain ⟨e0, e1, e2⟩ := index7 t
  refine ⟨fun h => ?_, fun h a => ?_⟩
  · have : win0_7.index t 0 * 1 ≤ (i 0).val ∧ (i 0).val < win0_7.index t 0 * 1 + 1 := h 0
    rw [e0] at this; omega
  · match a with
    | ⟨0, _⟩ => show win0_7.index t 0 * 1 ≤ (i 0).val ∧ (i 0).val < win0_7.index t 0 * 1 + 1
                rw [e0]; omega
    | ⟨1, _⟩ => show win0_7.index t 1 * 1 ≤ (i 1).val ∧ (i 1).val < win0_7.index t 1 * 1 + 1
                rw [e1]; omega
    | ⟨2, _⟩ => show win0_7.index t 2 * 256 ≤ (i 2).val ∧ (i 2).val < win0_7.index t 2 * 256 + 256
                rw [e2]; omega

/-- Every index of the scales' array lies in a block that is written back. -/
theorem cover7 (i : S20x1x256.Idx) : ∃ t : Fin cfg0.N, (cfg0.win 7).flush t = true ∧ i ∈ ((cfg0.win 7).blk t).view.set := by
  have h0 : (i 0).val < 20 := (i 0).isLt
  have hN : cfg0.N = 20 := N_0
  refine ⟨⟨(i 0).val, by omega⟩, flush0_7 _, ?_⟩
  rw [mem_blk7]

/-- What is written back to the scales' array at a grid point. -/
theorem flushed7 (c : Dev nD) (t : Fin cfg0.N) :
    (dats m 0 c).flushed 7 t = ((cfg0.win 7).blk t).view.read (Elt F) (scaleArr m c) := by
  show (cfg0.win 7).cut (grid0.coords t) ((dats m 0 c).after 7 t) = _
  rw [after0_7, iblk0, iblk1, iblk3]
  funext y
  rw [View.read_apply]
  obtain ⟨e0, e1, e2⟩ := index7 t
  have h0 : (y 0).val < 1 := (y 0).isLt
  have h1 : (y 1).val < 1 := (y 1).isLt
  have ht := lt_N t
  have r0 : ((((cfg0.win 7).blk t).view.emb y) 0).val = t.val := by
    show win0_7.index t 0 * 1 + 1 * (y 0).val = _; rw [e0]; omega
  have r2 : ((((cfg0.win 7).blk t).view.emb y) 2).val = (y 2).val := by
    show win0_7.index t 2 * 256 + 1 * (y 2).val = _; rw [e2]; omega
  have key : ∀ (z : S20x1x256.Idx), (z 0).val = t.val → (z 2).val = (y 2).val →
      blkScale (weights m c ⟨t.val, ht⟩) (V m c main_cst) (V m c main_v7) (ix3 (0 : Fin 1) (0 : Fin 1) (y 2) : S1x1x256.Idx) = scaleArr m c z := by
    intro z hz0 hz2
    unfold scaleArr
    have q0 : z 0 = (⟨t.val, ht⟩ : Fin 20) := Fin.ext hz0
    have q2 : z 2 = y 2 := Fin.ext hz2
    rw [q0, q2]
  refine Eq.trans ?_ (key _ r0 r2)
  refine congrArg (blkScale (weights m c ⟨t.val, ht⟩) (V m c main_cst) (V m c main_v7)) ?_
  funext a; apply Fin.ext
  match a with
  | ⟨0, _⟩ => show (y 0).val = 0; omega
  | ⟨1, _⟩ => show (y 1).val = 0; omega
  | ⟨2, _⟩ => rfl

/-- The scales array after the run. -/
theorem final7 (c : Dev nD) : (dats m 0 c).arrAt 7 cfg0.N = scaleArr m c :=
  (dats m 0 c).arrAt_eq_of_cover 7 (scaleArr m c) (fun t _ => flushed7 m c t) cover7

/-- The run: the results, and the arguments as they were. -/
theorem run_results : θ_run defs (onTc (τ := τ) (main (F := F))) ⟨m, fun _ => 0, ρ⟩ fun r => ∀ c : Dev nD,
      r.2.mem ((c : Thread nD τ).loc main_v16_0) = valuesArr m c
      ∧ r.2.mem ((c : Thread nD τ).loc main_v16_1) = wordsArr m c
      ∧ r.2.mem ((c : Thread nD τ).loc main_v16_2) = scaleArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final5 m c), (h c).2.1.trans (final6 m c), (h c).2.2.1.trans (final7 m c), (h c).2.2.2⟩)
    (run_blocks m ρ)

end Cert.KernelIdeal.Body

end
-- ==== Proof.Literals.lean ====
/-
  The constant tables of the idealized kernel in closed form: the channel each row of a permuted tile holds, the
  permutation matrix, and the lane each lane of the stored values is taken from.

  The permutation matrix is printed as a tree of matches on the index's digits. `tree` is the same tree with each entry
  the closed form at its index, so the two are equal entry by entry, and no entry has to be looked up.
-/
module

public import proofs.«01_k».proof.Proof.Gen.KernelIdeal.Launch
public import Idealize.ShloMosaic.Lib.Tactic

@[expose] public section

set_option maxRecDepth 16384

namespace Cert.KernelIdeal.Body

open Cert.KernelIdeal Cert.KernelIdeal.Gen
open Idealize.ShloMosaic Idealize.ShloMosaic.Tactic

/-- The channel of a tile in row `r` of the permuted tile. -/
def chan (r : Nat) : Nat := 4 * (8 * (r % 16 / 2) + r % 64 / 16 + 4 * (r % 2)) + r / 64

/-- The lane of the scratch tile that lane `q` of the stored values is taken from. -/
def lane (q : Nat) : Nat := q / 2 % 4 * 32 + q % 2 * 16 + (q / 16 * 2 + q / 8 % 2)

/-- A channel lies in its tile. -/
theorem chan_lt {r : Nat} (h : r < 256) : chan r < 256 := by unfold chan; omega

/-- The literal of channels. -/
theorem lit0_eq : ∀ r : Fin 256, lit0 r = BitVec.ofNat 32 (chan r.val) := by decide +kernel

/-- The literal of lane sources. -/
theorem lit1_eq : ∀ q : Fin 128, lit1 q = BitVec.ofNat 32 (lane q.val) := by decide +kernel

/-- The entry at column `j` of half row `n`. -/
def entry (n j : Nat) : BitVec 16 := cond (Nat.beq (n % 2 * 128 + j) (chan (n / 2))) 0x3F80#16 0x0000#16

/-- Half row `n`, by the column. -/
def leaf (n i : Nat) : BitVec 16 := match i % 128 with
  | 0 => entry n 0 | 1 => entry n 1 | 2 => entry n 2 | 3 => entry n 3 | 4 => entry n 4 | 5 => entry n 5 | 6 => entry n 6 | 7 => entry n 7
  | 8 => entry n 8 | 9 => entry n 9 | 10 => entry n 10 | 11 => entry n 11 | 12 => entry n 12 | 13 => entry n 13 | 14 => entry n 14 | 15 => entry n 15
  | 16 => entry n 16 | 17 => entry n 17 | 18 => entry n 18 | 19 => entry n 19 | 20 => entry n 20 | 21 => entry n 21 | 22 => entry n 22 | 23 => entry n 23
  | 24 => entry n 24 | 25 => entry n 25 | 26 => entry n 26 | 27 => entry n 27 | 28 => entry n 28 | 29 => entry n 29 | 30 => entry n 30 | 31 => entry n 31
  | 32 => entry n 32 | 33 => entry n 33 | 34 => entry n 34 | 35 => entry n 35 | 36 => entry n 36 | 37 => entry n 37 | 38 => entry n 38 | 39 => entry n 39
  | 40 => entry n 40 | 41 => entry n 41 | 42 => entry n 42 | 43 => entry n 43 | 44 => entry n 44 | 45 => entry n 45 | 46 => entry n 46 | 47 => entry n 47
  | 48 => entry n 48 | 49 => entry n 49 | 50 => entry n 50 | 51 => entry n 51 | 52 => entry n 52 | 53 => entry n 53 | 54 => entry n 54 | 55 => entry n 55
  | 56 => entry n 56 | 57 => entry n 57 | 58 => entry n 58 | 59 => entry n 59 | 60 => entry n 60 | 61 => entry n 61 | 62 => entry n 62 | 63 => entry n 63
  | 64 => entry n 64 | 65 => entry n 65 | 66 => entry n 66 | 67 => entry n 67 | 68 => entry n 68 | 69 => entry n 69 | 70 => entry n 70 | 71 => entry n 71
  | 72 => entry n 72 | 73 => entry n 73 | 74 => entry n 74 | 75 => entry n 75 | 76 => entry n 76 | 77 => entry n 77 | 78 => entry n 78 | 79 => entry n 79
  | 80 => entry n 80 | 81 => entry n 81 | 82 => entry n 82 | 83 => entry n 83 | 84 => entry n 84 | 85 => entry n 85 | 86 => entry n 86 | 87 => entry n 87
  | 88 => entry n 88 | 89 => entry n 89 | 90 => entry n 90 | 91 => entry n 91 | 92 => entry n 92 | 93 => entry n 93 | 94 => entry n 94 | 95 => entry n 95
  | 96 => entry n 96 | 97 => entry n 97 | 98 => entry n 98 | 99 => entry n 99 | 100 => entry n 100 | 101 => entry n 101 | 102 => entry n 102 | 103 => entry n 103
  | 104 => entry n 104 | 105 => entry n 105 | 106 => entry n 106 | 107 => entry n 107 | 108 => entry n 108 | 109 => entry n 109 | 110 => entry n 110 | 111 => entry n 111
  | 112 => entry n 112 | 113 => entry n 113 | 114 => entry n 114 | 115 => entry n 115 | 116 => entry n 116 | 117 => entry n 117 | 118 => entry n 118 | 119 => entry n 119
  | 120 => entry n 120 | 121 => entry n 121 | 122 => entry n 122 | 123 => entry n 123 | 124 => entry n 124 | 125 => entry n 125 | 126 => entry n 126 | 127 => entry n 127
  | _ => 0#16

/-- Quarter `a` of the matrix, by the half row. -/
def quarter (a i : Nat) : BitVec 16 := match i / 128 % 128 with
  | 0 => leaf (a * 128 + 0) i | 1 => leaf (a * 128 + 1) i | 2 => leaf (a * 128 + 2) i | 3 => leaf (a * 128 + 3) i | 4 => leaf (a * 128 + 4) i | 5 => leaf (a * 128 + 5) i
  | 6 => leaf (a * 128 + 6) i | 7 => leaf (a * 128 + 7) i | 8 => leaf (a * 128 + 8) i | 9 => leaf (a * 128 + 9) i | 10 => leaf (a * 128 + 10) i | 11 => leaf (a * 128 + 11) i
  | 12 => leaf (a * 128 + 12) i | 13 => leaf (a * 128 + 13) i | 14 => leaf (a * 128 + 14) i | 15 => leaf (a * 128 + 15) i | 16 => leaf (a * 128 + 16) i | 17 => leaf (a * 128 + 17) i
  | 18 => leaf (a * 128 + 18) i | 19 => leaf (a * 128 + 19) i | 20 => leaf (a * 128 + 20) i | 21 => leaf (a * 128 + 21) i | 22 => leaf (a * 128 + 22) i | 23 => leaf (a * 128 + 23) i
  | 24 => leaf (a * 128 + 24) i | 25 => leaf (a * 128 + 25) i | 26 => leaf (a * 128 + 26) i | 27 => leaf (a * 128 + 27) i | 28 => leaf (a * 128 + 28) i | 29 => leaf (a * 128 + 29) i
  | 30 => leaf (a * 128 + 30) i | 31 => leaf (a * 128 + 31) i | 32 => leaf (a * 128 + 32) i | 33 => leaf (a * 128 + 33) i | 34 => leaf (a * 128 + 34) i | 35 => leaf (a * 128 + 35) i
  | 36 => leaf (a * 128 + 36) i | 37 => leaf (a * 128 + 37) i | 38 => leaf (a * 128 + 38) i | 39 => leaf (a * 128 + 39) i | 40 => leaf (a * 128 + 40) i | 41 => leaf (a * 128 + 41) i
  | 42 => leaf (a * 128 + 42) i | 43 => leaf (a * 128 + 43) i | 44 => leaf (a * 128 + 44) i | 45 => leaf (a * 128 + 45) i | 46 => leaf (a * 128 + 46) i | 47 => leaf (a * 128 + 47) i
  | 48 => leaf (a * 128 + 48) i | 49 => leaf (a * 128 + 49) i | 50 => leaf (a * 128 + 50) i | 51 => leaf (a * 128 + 51) i | 52 => leaf (a * 128 + 52) i | 53 => leaf (a * 128 + 53) i
  | 54 => leaf (a * 128 + 54) i | 55 => leaf (a * 128 + 55) i | 56 => leaf (a * 128 + 56) i | 57 => leaf (a * 128 + 57) i | 58 => leaf (a * 128 + 58) i | 59 => leaf (a * 128 + 59) i
  | 60 => leaf (a * 128 + 60) i | 61 => leaf (a * 128 + 61) i | 62 => leaf (a * 128 + 62) i | 63 => leaf (a * 128 + 63) i | 64 => leaf (a * 128 + 64) i | 65 => leaf (a * 128 + 65) i
  | 66 => leaf (a * 128 + 66) i | 67 => leaf (a * 128 + 67) i | 68 => leaf (a * 128 + 68) i | 69 => leaf (a * 128 + 69) i | 70 => leaf (a * 128 + 70) i | 71 => leaf (a * 128 + 71) i
  | 72 => leaf (a * 128 + 72) i | 73 => leaf (a * 128 + 73) i | 74 => leaf (a * 128 + 74) i | 75 => leaf (a * 128 + 75) i | 76 => leaf (a * 128 + 76) i | 77 => leaf (a * 128 + 77) i
  | 78 => leaf (a * 128 + 78) i | 79 => leaf (a * 128 + 79) i | 80 => leaf (a * 128 + 80) i | 81 => leaf (a * 128 + 81) i | 82 => leaf (a * 128 + 82) i | 83 => leaf (a * 128 + 83) i
  | 84 => leaf (a * 128 + 84) i | 85 => leaf (a * 128 + 85) i | 86 => leaf (a * 128 + 86) i | 87 => leaf (a * 128 + 87) i | 88 => leaf (a * 128 + 88) i | 89 => leaf (a * 128 + 89) i
  | 90 => leaf (a * 128 + 90) i | 91 => leaf (a * 128 + 91) i | 92 => leaf (a * 128 + 92) i | 93 => leaf (a * 128 + 93) i | 94 => leaf (a * 128 + 94) i | 95 => leaf (a * 128 + 95) i
  | 96 => leaf (a * 128 + 96) i | 97 => leaf (a * 128 + 97) i | 98 => leaf (a * 128 + 98) i | 99 => leaf (a * 128 + 99) i | 100 => leaf (a * 128 + 100) i | 101 => leaf (a * 128 + 101) i
  | 102 => leaf (a * 128 + 102) i | 103 => leaf (a * 128 + 103) i | 104 => leaf (a * 128 + 104) i | 105 => leaf (a * 128 + 105) i | 106 => leaf (a * 128 + 106) i | 107 => leaf (a * 128 + 107) i
  | 108 => leaf (a * 128 + 108) i | 109 => leaf (a * 128 + 109) i | 110 => leaf (a * 128 + 110) i | 111 => leaf (a * 128 + 111) i | 112 => leaf (a * 128 + 112) i | 113 => leaf (a * 128 + 113) i
  | 114 => leaf (a * 128 + 114) i | 115 => leaf (a * 128 + 115) i | 116 => leaf (a * 128 + 116) i | 117 => leaf (a * 128 + 117) i | 118 => leaf (a * 128 + 118) i | 119 => leaf (a * 128 + 119) i
  | 120 => leaf (a * 128 + 120) i | 121 => leaf (a * 128 + 121) i | 122 => leaf (a * 128 + 122) i | 123 => leaf (a * 128 + 123) i | 124 => leaf (a * 128 + 124) i | 125 => leaf (a * 128 + 125) i
  | 126 => leaf (a * 128 + 126) i | 127 => leaf (a * 128 + 127) i
  | _ => 0#16

/-- The matrix, by the quarter. -/
def tree (i : Nat) : BitVec 16 := match i / 16384 with
  | 0 => quarter 0 i | 1 => quarter 1 i | 2 => quarter 2 i | 3 => quarter 3 i
  | _ => 0#16

/-- The permutation's literal is the tree told here. -/
theorem lit2t_eq : lit2t = tree := by sl_kernel_rfl

/-- A leaf of the tree. -/
theorem leaf_eq (n i : Nat) : leaf n i = entry n (i % 128) := by
  have h : i % 128 < 128 := Nat.mod_lt _ (by decide)
  unfold leaf
  split
  all_goals first | (rename_i e; rw [e]) | (exfalso; simp only [imp_false] at *; omega)

/-- A quarter of the tree. -/
theorem quarter_eq (a i : Nat) : quarter a i = leaf (a * 128 + i / 128 % 128) i := by
  have h : i / 128 % 128 < 128 := Nat.mod_lt _ (by decide)
  unfold quarter
  split
  all_goals first | (rename_i e; rw [e]) | (exfalso; simp only [imp_false] at *; omega)

/-- The permutation matrix: row `r` has its one at its channel. -/
theorem lit2t_apply (r k : Fin 256) : lit2t (r.val * 256 + k.val) = if k.val = chan r.val then 0x3F80#16 else 0#16 := by
  have hq : ∀ i, i < 65536 → tree i = quarter (i / 16384) i := by
    intro i hi
    unfold tree
    split
    all_goals first | (rename_i e; rw [e]) | (exfalso; simp only [imp_false] at *; omega)
  rw [lit2t_eq, hq _ (by omega), quarter_eq, leaf_eq]
  unfold entry
  have e1 : ((r.val * 256 + k.val) / 16384 * 128 + (r.val * 256 + k.val) / 128 % 128) % 2 * 128 + (r.val * 256 + k.val) % 128 = k.val := by omega
  have e2 : ((r.val * 256 + k.val) / 16384 * 128 + (r.val * 256 + k.val) / 128 % 128) / 2 = r.val := by omega
  rw [e1, e2]
  by_cases h : k.val = chan r.val
  · rw [if_pos h, h, Nat.beq_refl]; rfl
  · rw [if_neg h, (Bool.eq_false_iff.mpr fun e => h (Nat.eq_of_beq_eq_true e) : Nat.beq k.val (chan r.val) = false)]; rfl

end Cert.KernelIdeal.Body
-- ==== Proof.HostGather.lean ====
/-
  A host gather that takes columns of a rank-2 operand, one column index per result column, read at an index.
-/
module

public import Idealize.ShloMosaic.Lib.ValueIdxCore

@[expose] public section

noncomputable section

namespace Cert.ColumnTake

open Idealize.ShloMosaic Idealize.ShloMosaic.ValueIdx

/-- The dimension numbers: operand `[T, N]`, start indices `[C, 1]`, result `[T, C]`. -/
abbrev dims (T N C : Nat) (wf : GatherDims.WF ⟨2, ![T, N]⟩ ⟨2, ![C, 1]⟩ ⟨2, ![T, C]⟩ [0] [1] [] [1] [] 1 ![T, 1]) :
    GatherDims ⟨2, ![T, N]⟩ ⟨2, ![C, 1]⟩ ⟨2, ![T, C]⟩ where
  offsetDims := [0]
  collapsedSliceDims := [1]
  operandBatchingDims := []
  startIndicesBatchingDims := []
  startIndexMap := [1]
  indexVectorDim := 1
  sliceSizes := ![T, 1]
  wf := wf

/-- The operand at the result's row and at the column's index, read signed and clamped. -/
theorem apply {α : Type} {T N C w : Nat} (hN : 0 < N)
    (wf : GatherDims.WF ⟨2, ![T, N]⟩ ⟨2, ![C, 1]⟩ ⟨2, ![T, C]⟩ [0] [1] [] [1] [] 1 ![T, 1])
    (x : (⟨2, ![T, N]⟩ : Shape).Idx → α) (idx : IVec ⟨2, ![C, 1]⟩ w) (t : Fin T) (r : Fin C) :
    Host.gather (dims T N C wf) x idx (ix2 t r)
      = x (ix2 t ⟨min (idx (ix2 r (0 : Fin 1))).toInt.toNat (N - 1), by omega⟩) := by
  unfold Host.gather
  congr 1
  funext a
  refine Fin.ext ?_
  show (dims T N C wf).start (ix2 t r) idx a + (dims T N C wf).batchCoord (ix2 t r) a
      + (dims T N C wf).offCoord (ix2 t r) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · have h : (0 : Fin 2) ∉ (dims T N C wf).startIndexMap := by
      show (0 : Fin 2) ∉ ([1] : List (Fin 2)); decide
    unfold GatherDims.start
    rw [dif_neg h]
    simp only [Nat.add_zero, Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (dims T N C wf).startIndexMap from List.mem_singleton.mpr rfl)]
    have hsi : (dims T N C wf).siIdx (ix2 t r) ⟨List.idxOf (1 : Fin 2) (dims T N C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Cert.ColumnTake

end
-- ==== Proof.Host.lean ====
/-
  What the host operations leave in the kernel's constant inputs: the permutation, the identity matrix, the permuted
  activation norms, the lane sources.
-/
module

public import proofs.«01_k».proof.Proof.KernelIdealFrame
public import proofs.«01_k».proof.Proof.Literals
public import proofs.«01_k».proof.Proof.HostGather
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The permutation matrix as the kernel finds it. -/
abbrev permV (c : Dev nD) : FVec Ideal S256x256 .bf16 := V m c main_cst
/-- The identity matrix as the kernel finds it. -/
abbrev eyeV (c : Dev nD) : FVec Ideal S256x256 .bf16 := V m c main_v15
/-- The permuted activation norms as the kernel finds them. -/
abbrev actV (c : Dev nD) : FVec Ideal S3584x128 .f32 := V m c main_v7
/-- The lane sources as the kernel finds them. -/
abbrev srcV (c : Dev nD) : IVec S8x128 32 := V m c main_v9
/-- The activation norms. -/
abbrev actA (c : Dev nD) : FVec Ideal S3584 .f32 := m ((c : Thread nD τ).loc main_arg1)

/-- The place of an index of 256 elements. -/
theorem rowMajor1 (r : Fin 256) : S256.rowMajor (ix1 r) = r := Fin.ext (Shape.rowMajor_val_one _)
/-- The place of an index of 128 elements. -/
theorem rowMajor1' (r : Fin 128) : S128.rowMajor (ix1 r) = r := Fin.ext (Shape.rowMajor_val_one _)
/-- The place of an index of a square of 256. -/
theorem rowMajor2 (r k : Fin 256) : (S256x256.rowMajor (ix2 r k)).val = r.val * 256 + k.val := Shape.rowMajor_val_two _

/-- The permutation's literal at a place. -/
theorem lit2_val (i : Fin S256x256.numel) : lit2 i = lit2t i.val := rfl

/-- A set bit reads as one. -/
theorem uitofp_one : FloatOps.uitofp (F := Ideal) .bf16 1#1 = (1 : EReal) := by
  show (((1#1 : BitVec 1).toNat : ℝ) : EReal) = 1
  norm_num
/-- A clear bit reads as zero. -/
theorem uitofp_zero : FloatOps.uitofp (F := Ideal) .bf16 0#1 = (0 : EReal) := by
  show (((0#1 : BitVec 1).toNat : ℝ) : EReal) = 0
  norm_num

/-- The unit diagonal. -/
theorem eyeV_at (c : Dev nD) (i j : Fin 256) : eyeV m c (ix2 i j) = if i = j then 1 else 0 := by
  have e : eyeV m c
      = (uitofp (F := Ideal) .bf16 (cmpi .eq (addi (iotaInDim S256x256 32 0) (broadcastInDim S256x256 ![] bcast_S_S256x256 (constantI S_ 32 0#32))) (iotaInDim S256x256 32 1)) : FVec Ideal S256x256 .bf16) := rfl
  rw [e]
  pointwise []
  have e1 : IntOp.addi (BitVec.ofNat 32 i.val) 0#32 = BitVec.ofNat 32 i.val := BitVec.add_zero _
  rw [e1]
  by_cases h : i = j
  · rw [if_pos h, h]
    have e2 : IntOp.cmpi .eq (BitVec.ofNat 32 j.val) (BitVec.ofNat 32 j.val) = 1#1 := by
      show BitVec.ofBool (BitVec.ofNat 32 j.val == BitVec.ofNat 32 j.val) = 1#1
      rw [beq_self_eq_true]; rfl
    rw [e2]; exact uitofp_one
  · rw [if_neg h]
    have e2 : IntOp.cmpi .eq (BitVec.ofNat 32 i.val) (BitVec.ofNat 32 j.val) = 0#1 := by
      show BitVec.ofBool (BitVec.ofNat 32 i.val == BitVec.ofNat 32 j.val) = 0#1
      rw [beq_eq_false_iff_ne.2 fun e => h (Fin.ext ?_)]; rfl
      have := congrArg BitVec.toNat e
      simp only [BitVec.toNat_ofNat] at this
      omega
    rw [e2]; exact uitofp_zero

/-- The permutation: one where the column is the row's channel. -/
theorem permV_at (c : Dev nD) (r k : Fin 256) : permV m c (ix2 r k) = if k.val = chan r.val then 1 else 0 := by
  have e : permV m c = ((fun i => FloatOps.ofBits (F := Ideal) .bf16 (lit2 (S256x256.rowMajor i))) : FVec Ideal S256x256 .bf16) := rfl
  rw [e]
  show Ideal.ofBits .bf16 (lit2 (S256x256.rowMajor (ix2 r k))) = _
  rw [lit2_val, rowMajor2, lit2t_apply]
  split
  · exact Ideal.ofBits_one_bf16
  · exact Ideal.ofBits_zero_bf16

/-- The lane sources. -/
theorem srcV_at (c : Dev nD) (p : Fin 8) (q : Fin 128) : srcV m c (ix2 p q) = BitVec.ofNat 32 (lane q.val) := by
  have e : srcV m c = broadcastInDim S8x128 ![0, 1] bcast_S1x128_S8x128_0_1 (broadcastInDim S1x128 ![1] bcast_S128_S1x128_1 (fun i => lit1 (S128.rowMajor i))) := rfl
  rw [e]
  pointwise []
  rw [rowMajor1', lit1_eq]

/-- The norms, permuted within each tile. -/
theorem actV_at (c : Dev nD) (n : Fin 3584) (q : Fin 128) (h : n.val / 256 * 256 + chan (n.val % 256) < 3584) :
    actV m c (ix2 n q) = actA m c (ix1 ⟨n.val / 256 * 256 + chan (n.val % 256), h⟩) := by
  have e : actV m c = broadcastInDim S3584x128 ![0, 1] bcast_S3584x1_S3584x128_0_1
      (shapeCast S3584x1 (Host.gather gather_S14x256_S256x1_S14x256_0_1_n_n_1_1_141 (shapeCast S14x256 (actA m c) shapeCasts_S3584_S14x256)
        (broadcastInDim S256x1 ![0] bcast_S256_S256x1_0 (select (constantI S256 1 0#1) (addi (fun i => lit0 (S256.rowMajor i)) (broadcastInDim S256 ![] bcast_S_S256 (constantI S_ 32 256#32))) (fun i => lit0 (S256.rowMajor i))))) shapeCasts_S14x256_S3584x1) := rfl
  rw [e]
  pointwise []
  refine (Cert.ColumnTake.apply (by decide) _ _ _ _ _).trans ?_
  pointwise []
  have hc := chan_lt (r := n.val % 256) (by omega)
  refine congrArg (actA m c) (congrArg ix1 (Fin.ext ?_))
  show n.val / 256 * 256 + min (lit0 (S256.rowMajor (ix1 ⟨n.val % 256, _⟩))).toInt.toNat 255 = _
  rw [rowMajor1, lit0_eq]
  have e2 : (BitVec.ofNat 32 (chan (n.val % 256))).toInt = (chan (n.val % 256) : ℤ) := by
    rw [BitVec.toInt_eq_toNat_of_lt (by rw [BitVec.toNat_ofNat]; omega), BitVec.toNat_ofNat]; omega
  rw [e2]
  show _ = n.val / 256 * 256 + chan (n.val % 256)
  omega

end Cert.KernelIdeal.Body
end
-- ==== Proof.Select.lean ====
/-
  The choice of two of four keys, told over the extended reals alone: by counting for each key how many of the others
  beat it, and by comparing minima and maxima of pairs. The two agree, for the kept values and for their code.
-/
module

public import Idealize.ShloMosaic.Lib.Pointwise

@[expose] public section

set_option maxRecDepth 16384

noncomputable section

namespace Cert.Select

open Idealize.ShloMosaic

/-- Fewer than two of three comparisons hold. -/
def few (p q r : Bool) : BitVec 1 :=
  IntOp.cmpi .slt (IntOp.addi (IntOp.addi (BitVec.setWidth 32 (BitVec.ofBool p)) (BitVec.setWidth 32 (BitVec.ofBool q)))
    (BitVec.setWidth 32 (BitVec.ofBool r))) 2#32

variable {α : Type} (k : Fin 4 → EReal) (v : Fin 4 → α)

/-- Key 0 is among the two largest. -/
def keep0 : BitVec 1 := few (decide (k 0 < k 1)) (decide (k 0 < k 2)) (decide (k 0 < k 3))
/-- Key 1 is among the two largest. -/
def keep1 : BitVec 1 := few (decide (k 1 ≤ k 0)) (decide (k 1 < k 2)) (decide (k 1 < k 3))
/-- Key 2 is among the two largest. -/
def keep2 : BitVec 1 := few (decide (k 2 ≤ k 0)) (decide (k 2 ≤ k 1)) (decide (k 2 < k 3))
/-- Key 3 is among the two largest. -/
def keep3 : BitVec 1 := few (decide (k 3 ≤ k 0)) (decide (k 3 ≤ k 1)) (decide (k 3 ≤ k 2))

/-- The first kept value. -/
def first : α := Scalar.select (keep0 k) (v 0) (Scalar.select (keep1 k) (v 1) (v 2))

/-- The second kept value. -/
def second : α := Scalar.select (keep3 k) (v 3) (Scalar.select (keep2 k) (v 2) (v 1))

/-- The kept places' code. -/
def places : BitVec 32 :=
  IntOp.ori
    (Scalar.select (keep0 k) (0#32) (Scalar.select (keep1 k) (1#32) (Scalar.select (keep2 k) 2#32 3#32)))
    (IntOp.shli ArithUnit.host
      (Scalar.select (keep3 k) (3#32) (Scalar.select (keep2 k) (2#32) (Scalar.select (keep1 k) 1#32 0#32))) 2#32)

/-- The code by minima and maxima. -/
def code : Nat :=
  if max (k 2) (k 3) ≤ min (k 0) (k 1) then 4
  else if max (k 0) (k 1) < min (k 2) (k 3) then 14
  else if k 1 ≤ k 0 then (if k 3 ≤ k 2 then 8 else 12) else (if k 3 ≤ k 2 then 9 else 13)

/-- A code has four bits. -/
theorem code_lt : code k < 16 := by
  unfold code; split_ifs <;> decide

/-- Which of the comparisons of four keys hold together. -/
def ok (b01 b02 b03 b12 b13 b23 : Bool) : Bool :=
  (!(b01 && b12) || b02) && (b01 || b12 || !b02) && (!(b01 && b13) || b03) && (b01 || b13 || !b03)
    && (!(b02 && b23) || b03) && (b02 || b23 || !b03) && (!(b12 && b23) || b13) && (b12 || b23 || !b13)

/-- Comparison is transitive, as bits. -/
theorem trans_ok (a b c : EReal) : (!(decide (a < b) && decide (b < c)) || decide (a < c)) = true
    ∧ (decide (a < b) || decide (b < c) || !decide (a < c)) = true := by
  constructor
  · by_cases h : a < b <;> by_cases h' : b < c <;> simp [h, h']
    exact h.trans h'
  · by_cases h : a < b <;> by_cases h' : b < c <;> simp [h, h']
    exact (not_lt.1 h').trans (not_lt.1 h)

/-- The comparisons of four keys hold together. -/
theorem keys_ok : ok (decide (k 0 < k 1)) (decide (k 0 < k 2)) (decide (k 0 < k 3)) (decide (k 1 < k 2))
    (decide (k 1 < k 3)) (decide (k 2 < k 3)) = true := by
  unfold ok
  rw [(trans_ok (k 0) (k 1) (k 2)).1, (trans_ok (k 0) (k 1) (k 2)).2, (trans_ok (k 0) (k 1) (k 3)).1,
    (trans_ok (k 0) (k 1) (k 3)).2, (trans_ok (k 0) (k 2) (k 3)).1, (trans_ok (k 0) (k 2) (k 3)).2,
    (trans_ok (k 1) (k 2) (k 3)).1, (trans_ok (k 1) (k 2) (k 3)).2]
  rfl

/-- At most is not less, as bits. -/
theorem le_bool (a b : EReal) : decide (b ≤ a) = !decide (a < b) := by
  by_cases h : a < b
  · simp [h]
  · simp [h, not_lt.1 h]

/-- Both of the first pair against both of the second, as comparisons of two. -/
theorem lo_bool : decide (max (k 2) (k 3) ≤ min (k 0) (k 1))
    = (!decide (k 0 < k 2) && !decide (k 0 < k 3) && !decide (k 1 < k 2) && !decide (k 1 < k 3)) := by
  simp only [max_le_iff, le_min_iff, Bool.decide_and, le_bool]
  cases decide (k 0 < k 2) <;> cases decide (k 0 < k 3) <;> cases decide (k 1 < k 2) <;> cases decide (k 1 < k 3) <;> rfl

/-- Both of the second pair against both of the first, as comparisons of two. -/
theorem hi_bool : decide (max (k 0) (k 1) < min (k 2) (k 3))
    = (decide (k 0 < k 2) && decide (k 0 < k 3) && decide (k 1 < k 2) && decide (k 1 < k 3)) := by
  simp only [max_lt_iff, lt_min_iff, Bool.decide_and]
  cases decide (k 0 < k 2) <;> cases decide (k 0 < k 3) <;> cases decide (k 1 < k 2) <;> cases decide (k 1 < k 3) <;> rfl

/-- A choice by a proposition is a choice by its bit. -/
theorem if_bool (p : Prop) [Decidable p] (x y : α) : (if p then x else y) = bif decide p then x else y := by
  by_cases h : p <;> simp [h]

/-- The first kept value by minima and maxima. -/
theorem first_eq : (if max (k 0) (k 1) < min (k 2) (k 3) then v 2
      else Scalar.select (IntOp.ori (BitVec.ofBool (decide (k 1 ≤ k 0)))
        (BitVec.ofBool (decide (max (k 2) (k 3) ≤ min (k 0) (k 1))))) (v 0) (v 1)) = first k v := by
  have h := keys_ok k
  unfold first keep0 keep1
  rw [if_bool, lo_bool, hi_bool]
  simp only [le_bool]
  generalize decide (k 0 < k 1) = b01, decide (k 0 < k 2) = b02, decide (k 0 < k 3) = b03, decide (k 1 < k 2) = b12,
    decide (k 1 < k 3) = b13, decide (k 2 < k 3) = b23 at h ⊢
  cases b01 <;> cases b02 <;> cases b03 <;> cases b12 <;> cases b13 <;> cases b23 <;> first | rfl | exact absurd h (by decide)

/-- The second kept value by minima and maxima. -/
theorem second_eq : (if max (k 2) (k 3) ≤ min (k 0) (k 1) then v 1
      else Scalar.select (IntOp.andi (BitVec.ofBool (decide (k 3 ≤ k 2)))
        (IntOp.xori (BitVec.ofBool (decide (max (k 0) (k 1) < min (k 2) (k 3)))) 1#1)) (v 2) (v 3)) = second k v := by
  have h := keys_ok k
  unfold second keep2 keep3
  rw [if_bool, lo_bool, hi_bool]
  simp only [le_bool]
  generalize decide (k 0 < k 1) = b01, decide (k 0 < k 2) = b02, decide (k 0 < k 3) = b03, decide (k 1 < k 2) = b12,
    decide (k 1 < k 3) = b13, decide (k 2 < k 3) = b23 at h ⊢
  cases b01 <;> cases b02 <;> cases b03 <;> cases b12 <;> cases b13 <;> cases b23 <;> first | rfl | exact absurd h (by decide)

/-- A shift in range. -/
theorem shli_eq (u : ArithUnit) (x : BitVec 32) (n : Nat) (h : n < 32) :
    IntOp.shli u x (BitVec.ofNat 32 n) = x <<< n := by
  have e : (BitVec.ofNat 32 n).toNat = n := by rw [BitVec.toNat_ofNat]; exact Nat.mod_eq_of_lt (by omega)
  unfold IntOp.shli
  rw [if_pos (by rw [e]; exact h), BitVec.shiftLeft_eq', e]

/-- The two codes agree. -/
theorem places_eq : places k = BitVec.ofNat 32 (code k) := by
  have h := keys_ok k
  unfold places code keep0 keep1 keep2 keep3
  rw [shli_eq _ _ 2 (by decide)]
  simp only [if_bool]
  rw [lo_bool, hi_bool]
  simp only [le_bool]
  generalize decide (k 0 < k 1) = b01, decide (k 0 < k 2) = b02, decide (k 0 < k 3) = b03, decide (k 1 < k 2) = b12,
    decide (k 1 < k 3) = b13, decide (k 2 < k 3) = b23 at h ⊢
  cases b01 <;> cases b02 <;> cases b03 <;> cases b12 <;> cases b13 <;> cases b23 <;> first | decide | exact absurd h (by decide)

/-- The code at nibble `j` of a half word. -/
theorem nibble_eq (j : Fin 4) :
    (if max (k 2) (k 3) ≤ min (k 0) (k 1) then IntOp.muli (1#16) (BitVec.ofNat 16 (4 * 16 ^ j.val))
    else if max (k 0) (k 1) < min (k 2) (k 3) then IntOp.muli (1#16) (BitVec.ofNat 16 (14 * 16 ^ j.val))
      else if k 1 ≤ k 0 then
          if k 3 ≤ k 2 then IntOp.muli (1#16) (BitVec.ofNat 16 (8 * 16 ^ j.val))
          else IntOp.muli (1#16) (BitVec.ofNat 16 (12 * 16 ^ j.val))
        else
          if k 3 ≤ k 2 then IntOp.muli (1#16) (BitVec.ofNat 16 (9 * 16 ^ j.val))
          else IntOp.muli (1#16) (BitVec.ofNat 16 (13 * 16 ^ j.val)))
      = (BitVec.ofNat 16 (code k)) <<< (4 * j.val) := by
  unfold code
  split_ifs <;> (revert j; decide)

/-- Eight codes in one word: two half words of four nibbles each, or one after another. -/
theorem word_eq (c : Fin 8 → Nat) (hc : ∀ j, c j < 16) :
    ((BitVec.ofNat 16 (c 4) <<< (4 * 0) ||| BitVec.ofNat 16 (c 5) <<< (4 * 1) ||| BitVec.ofNat 16 (c 6) <<< (4 * 2)
        ||| BitVec.ofNat 16 (c 7) <<< (4 * 3)) ++
      (BitVec.ofNat 16 (c 0) <<< (4 * 0) ||| BitVec.ofNat 16 (c 1) <<< (4 * 1) ||| BitVec.ofNat 16 (c 2) <<< (4 * 2)
        ||| BitVec.ofNat 16 (c 3) <<< (4 * 3)) : BitVec 32)
      = BitVec.ofNat 32 (c 0) ||| BitVec.ofNat 32 (c 1) <<< 4 ||| BitVec.ofNat 32 (c 2) <<< 8
        ||| BitVec.ofNat 32 (c 3) <<< 12 ||| BitVec.ofNat 32 (c 4) <<< 16 ||| BitVec.ofNat 32 (c 5) <<< 20
        ||| BitVec.ofNat 32 (c 6) <<< 24 ||| BitVec.ofNat 32 (c 7) <<< 28 := by
  have hi : ∀ j i, 4 ≤ i → (c j).testBit i = false := fun j i h =>
    Nat.testBit_lt_two_pow (lt_of_lt_of_le (hc j) (Nat.pow_le_pow_right (show 2 > 0 by decide) h : 2 ^ 4 ≤ 2 ^ i))
  apply BitVec.eq_of_getLsbD_eq
  intro i h
  interval_cases i <;>
    simp only [BitVec.getLsbD_append, BitVec.getLsbD_or, BitVec.getLsbD_shiftLeft, BitVec.getLsbD_ofNat, hi, Nat.reduceLT,
      Nat.reduceSub, Nat.reduceMul, Nat.reduceLeDiff, decide_true, decide_false, Bool.true_and, Bool.false_and, Bool.not_true,
      Bool.not_false, Bool.or_false, Bool.false_or, Bool.and_false, Bool.and_true, if_true, if_false, le_refl, cond_true, cond_false,
      Bool.false_eq_true, reduceIte, ite_self] <;> rfl

end Cert.Select

end
-- ==== Proof.Scale.lean ====
/-
  The scale's arithmetic, told over the extended reals alone: a float32 word with a zero fraction is a power of two; the
  number of powers of two that a magnitude reaches; a binary search finds that number.
-/
module

public import Idealize.ShloMosaic.Lib.Pointwise
public import proofs.«01_k».proof.Proof.Select

@[expose] public section

set_option maxRecDepth 16384

noncomputable section

namespace Cert.Scale

open Idealize.ShloMosaic

/-- Two to an integer power. -/
def two (z : ℤ) : EReal := (((2 : ℝ) ^ z : ℝ) : EReal)

/-- A larger exponent gives a larger power. -/
theorem two_le {a b : ℤ} (h : a ≤ b) : two a ≤ two b :=
  EReal.coe_le_coe_iff.2 (zpow_le_zpow_right₀ (by norm_num) h)

/-- The word with exponent field `j` and a zero fraction. -/
def field (j : Nat) : BitVec 32 := IntOp.shli ArithUnit.vector (BitVec.ofNat 32 j) 23#32

/-- The word with an exponent field as a number. -/
theorem field_eq (j : Nat) (h : j < 256) : field j = BitVec.ofNat 32 (j * 2 ^ 23) := by
  unfold field
  rw [Cert.Select.shli_eq _ _ 23 (by decide)]
  apply BitVec.eq_of_toNat_eq
  rw [BitVec.toNat_shiftLeft, BitVec.toNat_ofNat, BitVec.toNat_ofNat, Nat.shiftLeft_eq]
  omega

/-- Its sign is plus. -/
theorem field_sign (j : Nat) (h : j < 256) : ((BitVec.ofNat 32 (j * 2 ^ 23)).extractLsb' 31 1 == 1#1) = false := by
  rw [beq_eq_false_iff_ne]
  intro e
  have := congrArg BitVec.toNat e
  rw [BitVec.extractLsb'_toNat, BitVec.toNat_ofNat, Nat.shiftRight_eq_div_pow] at this
  simp only [BitVec.toNat_ofNat] at this
  omega

/-- Its exponent field. -/
theorem field_exp (j : Nat) (h : j < 256) : ((BitVec.ofNat 32 (j * 2 ^ 23)).extractLsb' 23 8).toNat = j := by
  rw [BitVec.extractLsb'_toNat, BitVec.toNat_ofNat, Nat.shiftRight_eq_div_pow]
  omega

/-- Its fraction is zero. -/
theorem field_frac (j : Nat) : ((BitVec.ofNat 32 (j * 2 ^ 23)).extractLsb' 0 23).toNat = 0 := by
  rw [BitVec.extractLsb'_toNat, BitVec.toNat_ofNat, Nat.shiftRight_eq_div_pow]
  omega

/-- The reading of a float32 word. -/
theorem ofBits_f32 (b : BitVec 32) : Ideal.ofBits .f32 b = Ideal.ieee 8 23 b := rfl

/-- It stands for a power of two. -/
theorem ofBits_field (j : Nat) (h0 : 1 ≤ j) (h : j ≤ 254) : Ideal.ofBits .f32 (field j) = two ((j : ℤ) - 127) := by
  rw [field_eq j (by omega), ofBits_f32]
  unfold Ideal.ieee
  simp only [field_sign j (by omega), field_exp j (by omega), field_frac j]
  rw [if_neg (by omega), if_neg (by omega)]
  unfold two
  congr 1
  have e : ((j : ℤ) - 127) = 23 + ((j : ℤ) - (2 ^ (8 - 1) - 1) - 23) := by norm_num
  rw [e, zpow_add₀ (by norm_num)]
  norm_num

/-- The last field stands for infinity. -/
theorem ofBits_top : Ideal.ofBits .f32 (field 255) = ⊤ := by
  rw [field_eq 255 (by omega), ofBits_f32]
  unfold Ideal.ieee
  simp only [field_sign 255 (by omega), field_exp 255 (by omega), field_frac 255]
  rw [if_pos (by norm_num)]
  simp

/-- The float32 two. -/
theorem ofBits_two : Ideal.ofBits .f32 0x40000000#32 = ((2 : ℝ) : EReal) := by
  have h := ofBits_field 128 (by omega) (by omega)
  rw [field_eq 128 (by omega)] at h
  refine Eq.trans (show _ = _ from rfl) (h.trans ?_)
  unfold two
  norm_num

/-- The power of two at an integer exponent. -/
theorem pow_eq (b : BitVec 32) : Ideal.pow (Ideal.ofBits .f32 0x40000000#32) (FloatOps.sitofp (F := Ideal) .f32 b) = two b.toInt := by
  rw [ofBits_two]
  show Ideal.pow ((2 : ℝ) : EReal) (((b.toInt : ℝ)) : EReal) = _
  show ((Real.rpow 2 (b.toInt : ℝ) : ℝ) : EReal) = _
  unfold two
  congr 1
  exact Real.rpow_intCast 2 b.toInt

/-! ## Counting -/

/-- A condition that holds below whatever it holds at holds below its count. -/
theorem iff_lt_card {n : Nat} (P : Fin n → Prop) [DecidablePred P] (hP : ∀ a b, a ≤ b → P b → P a) (p : Fin n) :
    P p ↔ p.val < (Finset.univ.filter P).card := by
  constructor
  · intro h
    have : (Finset.Iic p) ⊆ Finset.univ.filter P := fun a ha => by
      rw [Finset.mem_filter]; exact ⟨Finset.mem_univ _, hP a p (Finset.mem_Iic.1 ha) h⟩
    have := Finset.card_le_card this
    rw [Fin.card_Iic] at this
    omega
  · intro h
    by_contra hn
    have : Finset.univ.filter P ⊆ Finset.Iio p := fun a ha => by
      rw [Finset.mem_filter] at ha
      rw [Finset.mem_Iio]
      by_contra hc
      exact hn (hP p a (not_lt.1 hc) ha.2)
    have := Finset.card_le_card this
    rw [Fin.card_Iio] at this
    omega

open scoped Classical in
/-- How many of the powers of two from `2^-126` to `2^127` a magnitude reaches. -/
def count (m : EReal) : Nat := (Finset.univ.filter fun p : Fin 254 => two ((p.val : ℤ) - 126) ≤ m).card

/-- There are 254 powers. -/
theorem count_le (m : EReal) : count m ≤ 254 := by
  classical
  unfold count
  exact (Finset.card_le_univ _).trans (by simp)

/-- A power is reached exactly when the count reaches it. -/
theorem two_le_iff (m : EReal) (j : Nat) (h0 : 1 ≤ j) (h : j ≤ 254) : two ((j : ℤ) - 127) ≤ m ↔ j ≤ count m := by
  classical
  have := iff_lt_card (fun p : Fin 254 => two ((p.val : ℤ) - 126) ≤ m)
    (fun a b hab hb => (two_le (by have : a.val ≤ b.val := hab; omega)).trans hb) ⟨j - 1, by omega⟩
  have e : (((j - 1 : ℕ) : ℤ) - 126) = (j : ℤ) - 127 := by omega
  simp only [e] at this
  rw [this]
  have ec : count m = (Finset.univ.filter fun p : Fin 254 => two ((p.val : ℤ) - 126) ≤ m).card := by
    unfold count; congr
  rw [ec]
  constructor
  · intro h; omega
  · intro h; omega

/-- A magnitude reaches the power that a field stands for where the field is at most the count. -/
theorem reach (m : EReal) (hm : m < ⊤) (j : Nat) (h0 : 1 ≤ j) (h : j ≤ 255) :
    Ideal.ofBits .f32 (field j) ≤ m ↔ j ≤ count m := by
  rcases Nat.lt_or_ge j 255 with h1 | h1
  · rw [ofBits_field j h0 (by omega), two_le_iff m j h0 (by omega)]
  · have : j = 255 := by omega
    subst this
    rw [ofBits_top]
    constructor
    · intro h; exact absurd (lt_of_le_of_lt h hm) (lt_irrefl _)
    · intro h; have := count_le m; omega

/-- A number below `2^126` reaches at most 252 powers. -/
theorem count_small (m : EReal) (hm : m < two 126) : count m ≤ 252 := by
  by_contra h
  have := (two_le_iff m 253 (by omega) (by omega)).2 (by omega)
  exact absurd (lt_of_le_of_lt this hm) (lt_irrefl _)

/-! ## The search -/

/-- One step of the search. -/
def step (m : EReal) (b n : BitVec 32) : BitVec 32 :=
  if Ideal.ofBits .f32 (IntOp.shli ArithUnit.vector (IntOp.addi b n) 23#32) ≤ m then IntOp.addi b n else b

/-- One step of the search on fields. -/
theorem step_eq (m : EReal) (hm : m < ⊤) (b n : Nat) (hn : 1 ≤ n) (h : b + n ≤ 255) :
    step m (BitVec.ofNat 32 b) (BitVec.ofNat 32 n) = BitVec.ofNat 32 (if b + n ≤ count m then b + n else b) := by
  have e : IntOp.addi (BitVec.ofNat 32 b) (BitVec.ofNat 32 n) = BitVec.ofNat 32 (b + n) := (BitVec.ofNat_add b n).symm
  unfold step
  rw [e]
  have := reach m hm (b + n) (by omega) h
  unfold field at this
  by_cases hc : b + n ≤ count m
  · rw [if_pos (this.2 hc), if_pos hc]
  · rw [if_neg (fun h => hc (this.1 h)), if_neg hc]

/-- One step halves the range. -/
theorem step_inv (m : EReal) (hm : m < ⊤) (b : Nat) (v : BitVec 32) (n : Nat) (hn : 1 ≤ n)
    (hv : v = BitVec.ofNat 32 b ∧ b ≤ count m ∧ count m < b + 2 * n ∧ b + 2 * n ≤ 256) :
    ∃ b', step m v (BitVec.ofNat 32 n) = BitVec.ofNat 32 b' ∧ b' ≤ count m ∧ count m < b' + n ∧ b' + n ≤ 256 := by
  obtain ⟨rfl, h1, h2, h3⟩ := hv
  refine ⟨_, step_eq m hm b n hn (by omega), ?_⟩
  split <;> omega

/-- The eight steps find the count. -/
theorem search_eq (m : EReal) (hm : m < ⊤) :
    [128#32, 64#32, 32#32, 16#32, 8#32, 4#32, 2#32, 1#32].foldl (step m) 0#32 = BitVec.ofNat 32 (count m) := by
  have h0 : count m < 0 + 2 * 128 := by have := count_le m; omega
  obtain ⟨b1, h1⟩ := step_inv m hm 0 0#32 128 (by omega) ⟨rfl, by omega, h0, by omega⟩
  obtain ⟨b2, h2⟩ := step_inv m hm b1 _ 64 (by omega) h1
  obtain ⟨b3, h3⟩ := step_inv m hm b2 _ 32 (by omega) h2
  obtain ⟨b4, h4⟩ := step_inv m hm b3 _ 16 (by omega) h3
  obtain ⟨b5, h5⟩ := step_inv m hm b4 _ 8 (by omega) h4
  obtain ⟨b6, h6⟩ := step_inv m hm b5 _ 4 (by omega) h5
  obtain ⟨b7, h7⟩ := step_inv m hm b6 _ 2 (by omega) h6
  obtain ⟨b8, h8, h9, h10, _⟩ := step_inv m hm b7 _ 1 (by omega) h7
  have : b8 = count m := by omega
  rw [this] at h8
  exact h8

/-! ## The exponent -/

/-- The exponent of a count. -/
def expo (k : Nat) : ℤ := if k = 0 then 0 else (k : ℤ) - 126

/-- The exponent as the programs compute it. -/
def expoW (b : BitVec 32) : BitVec 32 := Scalar.select (IntOp.cmpi .eq b 0#32) 0#32 (IntOp.subi b 126#32)

/-- The exponent's word reads as the exponent. -/
theorem expoW_toInt (k : Nat) (h : k ≤ 254) : (expoW (BitVec.ofNat 32 k)).toInt = expo k := by
  have := (by decide +kernel : ∀ k : Fin 255, (expoW (BitVec.ofNat 32 k.val)).toInt = expo k.val)
  exact this ⟨k, by omega⟩

/-- The negated word reads as the negated exponent. -/
theorem neg_expoW_toInt (k : Nat) (h : k ≤ 254) : (-(expoW (BitVec.ofNat 32 k))).toInt = -expo k := by
  have := (by decide +kernel : ∀ k : Fin 255, (-(expoW (BitVec.ofNat 32 k.val))).toInt = -expo k.val)
  exact this ⟨k, by omega⟩

/-- The exponents counted start at -126. -/
theorem index_toInt (p : Nat) (h : p < 254) : (IntOp.addi 4294967170#32 (BitVec.ofNat 32 p)).toInt = (p : ℤ) - 126 := by
  have := (by decide +kernel : ∀ p : Fin 254, (IntOp.addi 4294967170#32 (BitVec.ofNat 32 p.val)).toInt = (p.val : ℤ) - 126)
  exact this ⟨p, h⟩

/-- The scale's exponent field. -/
theorem scale_field (k : Nat) (h : k ≤ 252) :
    IntOp.addi 127#32 (expoW (BitVec.ofNat 32 k)) = BitVec.ofNat 32 (if k = 0 then 127 else k + 1) := by
  have := (by decide +kernel : ∀ k : Fin 253, IntOp.addi 127#32 (expoW (BitVec.ofNat 32 k.val)) = BitVec.ofNat 32 (if k.val = 0 then 127 else k.val + 1))
  exact this ⟨k, by omega⟩

/-- The inverse scale's exponent field. -/
theorem inv_field (k : Nat) (h : k ≤ 252) :
    IntOp.subi 127#32 (expoW (BitVec.ofNat 32 k)) = BitVec.ofNat 32 (if k = 0 then 127 else 253 - k) := by
  have := (by decide +kernel : ∀ k : Fin 253, IntOp.subi 127#32 (expoW (BitVec.ofNat 32 k.val)) = BitVec.ofNat 32 (if k.val = 0 then 127 else 253 - k.val))
  exact this ⟨k, by omega⟩

/-- The scale by its bits. -/
theorem scale_eq (k : Nat) (h : k ≤ 252) :
    Ideal.ofBits .f32 (IntOp.shli ArithUnit.vector (IntOp.addi 127#32 (expoW (BitVec.ofNat 32 k))) 23#32) = two (expo k) := by
  rw [scale_field k h]
  refine (ofBits_field _ (by split <;> omega) (by split <;> omega)).trans (congrArg two ?_)
  unfold expo
  split <;> push_cast <;> omega

/-- The inverse scale by its bits. -/
theorem inv_eq (k : Nat) (h : k ≤ 252) :
    Ideal.ofBits .f32 (IntOp.shli ArithUnit.vector (IntOp.subi 127#32 (expoW (BitVec.ofNat 32 k))) 23#32) = two (-expo k) := by
  rw [inv_field k h]
  refine (ofBits_field _ (by split <;> omega) (by split <;> omega)).trans (congrArg two ?_)
  unfold expo
  split <;> omega

end Cert.Scale
end
-- ==== Proof.Spec.lean ====
/-
  The compressor's three results, element by element, over the extended reals.
-/
module

public import proofs.«01_k».proof.Proof.Scale

@[expose] public section

set_option maxRecDepth 16384

noncomputable section

namespace Cert.Spec

open Idealize.ShloMosaic

variable (W : (⟨2, ![5120, 3584]⟩ : Shape).Idx → EReal) (A : (⟨1, ![3584]⟩ : Shape).Idx → EReal)

/-- The salience of member `c` of group `g` of row `i`. -/
def key (i : Fin 5120) (g : Fin 896) (c : Fin 4) : EReal :=
  max (W (ix2 i ⟨g.val * 4 + c.val, by omega⟩)) (-W (ix2 i ⟨g.val * 4 + c.val, by omega⟩))
    * A (ix1 ⟨g.val * 4 + c.val, by omega⟩)

/-- Its weight. -/
def val (i : Fin 5120) (g : Fin 896) (c : Fin 4) : EReal := W (ix2 i ⟨g.val * 4 + c.val, by omega⟩)

/-- The two kept weights of a group. -/
def pair (i : Fin 5120) (g : Fin 896) (s : Fin 2) : EReal :=
  if s.val < 1 then Select.first (key W A i g) (val W i g) else Select.second (key W A i g) (val W i g)

/-- The kept weights of a row, in order. -/
def kept (i : Fin 5120) (n : Fin 1792) : EReal := pair W A i ⟨n.val / 2, by omega⟩ ⟨n.val % 2, by omega⟩

/-- The largest kept magnitude of a row over 448. -/
def top (i : Fin 5120) : EReal :=
  Finset.univ.fold max ⊥ (fun n : Fin 1792 => max (kept W A i n) (-kept W A i n)) * Ideal.ofBits .f32 0x3B124925#32

/-- The exponent of a row's scale. -/
def expo (i : Fin 5120) : ℤ := Scale.expo (Scale.count (top W A i))

/-- The stored values. -/
def value (i : Fin 5120) (n : Fin 1792) : EReal :=
  min (Ideal.ofBits .f32 0x43E00000#32) (max (Ideal.ofBits .f32 0xC3E00000#32) (kept W A i n * Scale.two (-expo W A i)))

/-- The scales. -/
def scale (i : Fin 5120) : EReal := Scale.two (expo W A i)

/-- A group's code. -/
def code (i : Fin 5120) (g : Fin 896) : BitVec 32 := BitVec.ofNat 32 (Select.code (key W A i g))

/-- The words of codes. -/
def word (i : Fin 5120) (p : Fin 112) : BitVec 32 :=
  code W A i ⟨p.val * 8, by omega⟩ ||| code W A i ⟨p.val * 8 + 1, by omega⟩ <<< 4
    ||| code W A i ⟨p.val * 8 + 2, by omega⟩ <<< 8 ||| code W A i ⟨p.val * 8 + 3, by omega⟩ <<< 12
    ||| code W A i ⟨p.val * 8 + 4, by omega⟩ <<< 16 ||| code W A i ⟨p.val * 8 + 5, by omega⟩ <<< 20
    ||| code W A i ⟨p.val * 8 + 6, by omega⟩ <<< 24 ||| code W A i ⟨p.val * 8 + 7, by omega⟩ <<< 28

/-! ## The bound -/

/-- A kept weight is one of the row's weights. -/
theorem pair_mem (i : Fin 5120) (g : Fin 896) (s : Fin 2) : ∃ c : Fin 4, pair W A i g s = val W i g c := by
  unfold pair Select.first Select.second Scalar.select
  split_ifs
  · exact ⟨_, rfl⟩
  · exact ⟨_, rfl⟩
  · exact ⟨_, rfl⟩
  · exact ⟨_, rfl⟩
  · exact ⟨_, rfl⟩
  · exact ⟨_, rfl⟩

/-- The constant float32 nearest `1/448`. -/
theorem over448 : Ideal.ofBits .f32 0x3B124925#32 = ((9586981 * (2 : ℝ) ^ (-32 : ℤ) : ℝ) : EReal) := by
  rw [Scale.ofBits_f32]
  unfold Ideal.ieee
  simp only [(by decide : ((0x3B124925#32).extractLsb' 31 1 == 1#1) = false), (by decide : ((0x3B124925#32).extractLsb' 23 8).toNat = 118),
    (by decide : ((0x3B124925#32).extractLsb' 0 23).toNat = 1198373)]
  rw [if_neg (by omega), if_neg (by omega)]
  congr 1
  norm_num

/-- With weights below `2^128` a row reaches no power from `2^126` on. -/
theorem top_small (hW : ∀ j, max (W j) (-W j) ≤ Scale.two 128) (i : Fin 5120) : top W A i < Scale.two 126 := by
  have h : Finset.univ.fold max ⊥ (fun n : Fin 1792 => max (kept W A i n) (-kept W A i n)) ≤ Scale.two 128 := by
    rw [Finset.fold_max_le]
    refine ⟨bot_le, fun n _ => ?_⟩
    unfold kept
    obtain ⟨c, hc⟩ := pair_mem W A i ⟨n.val / 2, by omega⟩ ⟨n.val % 2, by omega⟩
    rw [hc]
    exact hW _
  unfold top
  rw [over448]
  have hc : (0 : EReal) ≤ ((9586981 * (2 : ℝ) ^ (-32 : ℤ) : ℝ) : EReal) := EReal.coe_nonneg.2 (by positivity)
  refine lt_of_le_of_lt (mul_le_mul_of_nonneg_right h hc) ?_
  unfold Scale.two
  rw [← EReal.coe_mul, EReal.coe_lt_coe_iff]
  norm_num

/-- So the count is at most 252. -/
theorem count_small (hW : ∀ j, max (W j) (-W j) ≤ Scale.two 128) (i : Fin 5120) : Scale.count (top W A i) ≤ 252 :=
  Scale.count_small _ (top_small W A hW i)

/-- So a row's largest magnitude is finite. -/
theorem top_lt (hW : ∀ j, max (W j) (-W j) ≤ Scale.two 128) (i : Fin 5120) : top W A i < ⊤ :=
  (top_small W A hW i).trans (EReal.coe_lt_top _)

end Cert.Spec
end
-- ==== Proof.KernelSpec.lean ====
/-
  The idealized kernel's three results, element by element: the same as the specification's.
-/
module

public import proofs.«01_k».proof.Proof.KernelIdealValue
public import proofs.«01_k».proof.Proof.Host
public import proofs.«01_k».proof.Proof.Spec
public import Idealize.ShloMosaic.Lib.BitcastPair

@[expose] public section

set_option maxRecDepth 16384

noncomputable section

namespace Cert.KernelIdeal.Body

open Cert.KernelIdeal Cert.KernelIdeal.Gen
open Idealize.ShloMosaic Idealize.ShloMosaic.TcCoe Idealize.SL.Sem

/-! ## The block's operations at an index -/

section
variable (X : FVec Ideal S256x256 .f32) (A : Fin 4 → Fin 4 → FVec Ideal S16x128 .f32) (l : Fin 2) (jj : Fin 4) (r : Fin 16) (q : Fin 128)

/-- The four members' saliences at one position. -/
def keys (c : Fin 4) : EReal := key X A l jj c (ix2 r q)
/-- The four members' weights at one position. -/
def vals (c : Fin 4) : EReal := sub X l jj c (ix2 r q)

/-- The kernel's first kept weight is the first of the two kept by rank. -/
theorem kept0_at : kept0 X A l jj (ix2 r q) = Select.first (keys X A l jj r q) (vals X l jj r q) := by
  pointwise [kept0, bothHi, bothLo, c01, c23, val]
  exact Select.first_eq (keys X A l jj r q) (vals X l jj r q)

/-- The kernel's second kept weight is the second of the two kept by rank. -/
theorem kept1_at : kept1 X A l jj (ix2 r q) = Select.second (keys X A l jj r q) (vals X l jj r q) := by
  pointwise [kept1, bothHi, bothLo, c01, c23, val]
  exact Select.second_eq (keys X A l jj r q) (vals X l jj r q)

/-- The kernel's code is the kept places' code at its nibble. -/
theorem code_at : code X A l jj (ix2 r q) = BitVec.ofNat 16 (Select.code (keys X A l jj r q)) <<< (4 * jj.val) := by
  pointwise [code, nib, bothHi, bothLo, c01, c23, val]
  exact Select.nibble_eq (keys X A l jj r q) jj

/-- A half word is four codes. -/
theorem half_at : half X A l (ix2 r q)
    = BitVec.ofNat 16 (Select.code (keys X A l 0 r q)) <<< (4 * 0) ||| BitVec.ofNat 16 (Select.code (keys X A l 1 r q)) <<< (4 * 1)
      ||| BitVec.ofNat 16 (Select.code (keys X A l 2 r q)) <<< (4 * 2) ||| BitVec.ofNat 16 (Select.code (keys X A l 3 r q)) <<< (4 * 3) := by
  pointwise [half, code_at]
  rfl
end

/-- A word is two rows of half words, the even row low. -/
theorem word_at (X : FVec Ideal S256x256 .f32) (A : Fin 4 → Fin 4 → FVec Ideal S16x128 .f32) (l : Fin 2) (i : Fin 8) (q : Fin 128) :
    word X A l (ix2 i q) = (half X A l (ix2 ⟨2 * i.val + 1, by omega⟩ q) ++ half X A l (ix2 ⟨2 * i.val, by omega⟩ q) : BitVec (16 + 16)) := by
  have e : word X A l (ix2 i q) = bitcast S8x128 32 (half X A l) bitcasts_S16x128_w16_S8x128_w32 (ix2 i q) := by
    generalize hh : half X A l = H
    pointwise [word, hh]
  rw [e, bitcast_16_32]
  refine congrArg₂ (fun a b : BitVec 16 => (a ++ b : BitVec (16 + 16))) (congrArg (half X A l) ?_) (congrArg (half X A l) ?_)
  · funext a; apply Fin.ext
    match a with
    | ⟨0, _⟩ => rfl
    | ⟨1, _⟩ => rfl
  · funext a; apply Fin.ext
    match a with
    | ⟨0, _⟩ => rfl
    | ⟨1, _⟩ => rfl

/-- The tile at an index. -/
theorem xt_at (P W : FVec Ideal S256x256 .bf16) (r c : Fin 256) : xt P W (ix2 r c) = ∑ x : Fin 256, P (ix2 r x) * W (ix2 c x) := by
  pointwise [xt]

/-- A slice of a tile. -/
theorem sub_at (X : FVec Ideal S256x256 .f32) (l : Fin 2) (jj c : Fin 4) (r : Fin 16) (q : Fin 128) :
    sub X l jj c (ix2 r q) = X (ix2 ⟨c.val * 64 + jj.val * 16 + r.val, by omega⟩ ⟨l.val * 128 + q.val, by omega⟩) := by
  pointwise [sub]

/-- A salience is a magnitude times a norm. -/
theorem key_at (X : FVec Ideal S256x256 .f32) (A : Fin 4 → Fin 4 → FVec Ideal S16x128 .f32) (l : Fin 2) (jj c : Fin 4) (r : Fin 16) (q : Fin 128) :
    key X A l jj c (ix2 r q) = max (sub X l jj c (ix2 r q)) (-sub X l jj c (ix2 r q)) * A jj c (ix2 r q) := by
  pointwise [key]
  rfl

/-- The reduction starts from minus infinity. -/
theorem ofBits_negInf : Ideal.ofBits .f32 0xFF800000#32 = ⊥ := by
  rw [Scale.ofBits_f32]
  unfold Ideal.ieee
  simp only [(by decide : ((0xFF800000#32).extractLsb' 31 1 == 1#1) = true), (by decide : ((0xFF800000#32).extractLsb' 23 8).toNat = 255),
    (by decide : ((0xFF800000#32).extractLsb' 0 23).toNat = 0)]
  rw [if_pos (by norm_num)]
  simp

/-- The largest magnitude over 448, by the row's half. -/
theorem over448_at (a0 a1 : FVec Ideal S16x128 .bf16) (r : Fin 256) : over448 a0 a1 (ix2 0 r)
    = (if h : r.val < 128 then Finset.univ.fold max ⊥ (fun x : Fin 16 => a0 (ix2 x ⟨r.val, h⟩))
        else Finset.univ.fold max ⊥ (fun x : Fin 16 => a1 (ix2 x ⟨r.val - 128, by omega⟩))) * Ideal.ofBits .f32 0x3B124925#32 := by
  pointwise [over448]
  rw [ofBits_negInf]

/-- One step of the search at a row. -/
theorem searchStep_at (m : FVec Ideal S1x256 .f32) (b : IVec S1x256 32) (n : BitVec 32) (q : Fin 256) :
    searchStep m b n (ix2 0 q) = Scale.step (m (ix2 0 q)) (b (ix2 0 q)) n := by
  pointwise [searchStep]
  rfl

/-- The steps of the search at a row. -/
theorem foldl_at (m : FVec Ideal S1x256 .f32) (q : Fin 256) (L : List (BitVec 32)) (b : IVec S1x256 32) :
    L.foldl (searchStep m) b (ix2 0 q) = L.foldl (Scale.step (m (ix2 0 q))) (b (ix2 0 q)) := by
  induction L generalizing b with
  | nil => rfl
  | cons n L ih => rw [List.foldl_cons, List.foldl_cons, ih, searchStep_at]

/-- The search finds the number of powers reached. -/
theorem search_at (m : FVec Ideal S1x256 .f32) (q : Fin 256) (hm : m (ix2 0 q) < ⊤) :
    search m (ix2 0 q) = BitVec.ofNat 32 (Scale.count (m (ix2 0 q))) := by
  unfold search
  rw [foldl_at]
  exact Scale.search_eq _ hm

/-- The exponent at a row. -/
theorem expo_at (m : FVec Ideal S1x256 .f32) (q : Fin 256) : expo m (ix2 0 q) = Scale.expoW (search m (ix2 0 q)) := by
  pointwise [expo]
  rfl

/-- The scale is a power of two. -/
theorem scaleV_at (m : FVec Ideal S1x256 .f32) (q : Fin 256) (hm : m (ix2 0 q) < ⊤) (hk : Scale.count (m (ix2 0 q)) ≤ 252) :
    scaleV m (ix2 0 q) = Scale.two (Scale.expo (Scale.count (m (ix2 0 q)))) := by
  pointwise [scaleV, expo_at]
  rw [search_at m q hm]
  exact Scale.scale_eq _ hk

/-- The inverse scale is the inverse power. -/
theorem invV_at (m : FVec Ideal S1x256 .f32) (q : Fin 256) (hm : m (ix2 0 q) < ⊤) (hk : Scale.count (m (ix2 0 q)) ≤ 252) :
    invV m (ix2 0 q) = Scale.two (-Scale.expo (Scale.count (m (ix2 0 q)))) := by
  pointwise [invV, expo_at]
  rw [search_at m q hm]
  exact Scale.inv_eq _ hk

/-- The diagonal's elements. -/
theorem diag_at (m : FVec Ideal S1x256 .f32) (E : FVec Ideal S256x256 .bf16) (p q : Fin 256) :
    diag m E (ix2 p q) = E (ix2 p q) * invV m (ix2 0 q) := by
  pointwise [diag]

/-- A product with the diagonal, clipped. -/
theorem quant_at (D V : FVec Ideal S256x256 .bf16) (p q : Fin 256) : quant D V (ix2 p q)
    = min (Ideal.ofBits .f32 0x43E00000#32) (max (Ideal.ofBits .f32 0xC3E00000#32) (∑ x : Fin 256, D (ix2 p x) * V (ix2 q x))) := by
  pointwise [quant]

/-- The gather takes its lane's source. -/
theorem gath_at (Q : FVec Ideal S256x256 .fp8e4m3) (s : IVec S1x128 32) (h : Fin 2) (p : Fin 256) (q : Fin 128) (n : Nat) (hn : n < 128)
    (hs : s (ix2 0 q) = BitVec.ofNat 32 n) : gath Q s h (ix2 p q) = Q (ix2 p ⟨h.val * 128 + n, by omega⟩) := by
  pointwise [gath, lanes]
  refine congrArg (fun k => Q (ix2 p k)) (Fin.ext ?_)
  show h.val * 128 + (Scalar.select (IntOp.cmpi .slt (s (ix2 0 q)) 0#32) (IntOp.addi (s (ix2 0 q)) 128#32) (s (ix2 0 q))).toNat % 128 = h.val * 128 + n
  rw [hs]
  show h.val * 128 + (Scalar.select (IntOp.cmpi .slt (BitVec.ofNat 32 n) 0#32) (IntOp.addi (BitVec.ofNat 32 n) 128#32) (BitVec.ofNat 32 n)).toNat % 128
    = h.val * 128 + n
  have e : ∀ n : Fin 128, (Scalar.select (IntOp.cmpi .slt (BitVec.ofNat 32 n.val) 0#32) (IntOp.addi (BitVec.ofNat 32 n.val) 128#32) (BitVec.ofNat 32 n.val)).toNat % 128
      = n.val := by decide +kernel
  rw [e ⟨n, hn⟩]

/-! ## The largest magnitude -/

/-- A fold whose steps each add one bound is bounded when all of them hold. -/
theorem foldl_le {α β : Type*} (f : α → EReal) (step : α → β → α) (P : β → Prop) (z : EReal)
    (h : ∀ a x, f (step a x) ≤ z ↔ f a ≤ z ∧ P x) (L : List β) (a : α) :
    f (L.foldl step a) ≤ z ↔ f a ≤ z ∧ ∀ x ∈ L, P x := by
  induction L generalizing a with
  | nil => simp
  | cons x L ih => rw [List.foldl_cons, ih, h]; simp [and_assoc]

/-- A magnitude is not negative. -/
theorem abs_nonneg (k : EReal) : 0 ≤ max k (-k) := by
  rcases le_total 0 k with h | h
  · exact le_max_of_le_left h
  · exact le_max_of_le_right (EReal.neg_nonneg.2 h)

/-- An element of the running maximum is at most `z` when every kept magnitude it saw is. -/
theorem amax_le (X : Fin 14 → FVec Ideal S256x256 .f32) (A : Fin 14 → Fin 4 → Fin 4 → FVec Ideal S16x128 .f32) (l : Fin 2)
    (x : Fin 16) (q : Fin 128) (z : EReal) : amax X A l (ix2 x q) ≤ z
      ↔ 0 ≤ z ∧ ∀ (t : Fin 14) (jj : Fin 4) (s : Fin 2), max (kept (X t) (A t) l jj s (ix2 x q)) (-kept (X t) (A t) l jj s (ix2 x q)) ≤ z := by
  unfold amax
  rw [foldl_le (fun a : FVec Ideal S16x128 .bf16 => a (ix2 x q)) _
    (fun t => ∀ (jj : Fin 4) (s : Fin 2), max (kept (X t) (A t) l jj s (ix2 x q)) (-kept (X t) (A t) l jj s (ix2 x q)) ≤ z) z]
  · refine and_congr ?_ ⟨fun h t => h t (mem_tiles t), fun h t _ => h t⟩
    show Ideal.ofBits .bf16 0x0000#16 ≤ z ↔ 0 ≤ z
    rw [Ideal.ofBits_zero_bf16]
  · intro a t
    rw [foldl_le (fun a : FVec Ideal S16x128 .bf16 => a (ix2 x q)) _
      (fun jj => ∀ s : Fin 2, max (kept (X t) (A t) l jj s (ix2 x q)) (-kept (X t) (A t) l jj s (ix2 x q)) ≤ z) z]
    · exact and_congr Iff.rfl ⟨fun h jj => h jj (mem_four jj), fun h jj _ => h jj⟩
    · intro a jj
      have e : amaxStep (X t) (A t) l a jj (ix2 x q) = max (a (ix2 x q)) (max
          (max (kept (X t) (A t) l jj 0 (ix2 x q)) (-kept (X t) (A t) l jj 0 (ix2 x q)))
          (max (kept (X t) (A t) l jj 1 (ix2 x q)) (-kept (X t) (A t) l jj 1 (ix2 x q)))) := by
        generalize h0 : kept (X t) (A t) l jj 0 = k0
        generalize h1 : kept (X t) (A t) l jj 1 = k1
        pointwise [amaxStep, h0, h1]
        rfl
      show amaxStep (X t) (A t) l a jj (ix2 x q) ≤ z ↔ _
      rw [e, max_le_iff, max_le_iff, Fin.forall_fin_two]

/-! ## One block -/

section
variable (W : FVec Ideal S5120x3584 .bf16) (A : FVec Ideal S3584 .f32) (T : Fin 20)
  (x0 : Vec Ideal S256x3584 .bf16) (x1 x2 : Vec Ideal S256x256 .bf16) (x3 : Vec Ideal S3584x128 .f32) (x4 : Vec Ideal S8x128 .i32)

/-- A lane source is a lane. -/
theorem lane_lt {q : Nat} (h : q < 128) : lane q < 128 := by unfold lane; omega

/-- A tile's row is one member of one group. -/
theorem chan_eq (c jj : Fin 4) (r : Fin 16) :
    chan (c.val * 64 + jj.val * 16 + r.val) = 4 * (8 * (r.val / 2) + jj.val + 4 * (r.val % 2)) + c.val := by
  revert c jj r; decide

/-- The lane that a lane takes from holds the kept weight of that place. -/
theorem lane_eq (q : Fin 128) :
    q.val = 2 * (8 * (lane q.val % 16 / 2) + lane q.val / 32 + 4 * (lane q.val % 16 % 2)) + lane q.val % 32 / 16 := by
  revert q; decide

/-- The scratch of words at an index. -/
theorem wordAt_ix (X : Fin 14 → FVec Ideal S256x256 .f32) (A : Fin 14 → Fin 4 → Fin 4 → FVec Ideal S16x128 .f32)
    (t : Fin 14) (l : Fin 2) (i : Fin 8) (q : Fin 128) (p : Fin 128) (r : Fin 256)
    (hp : p.val = t.val * 8 + i.val) (hr : r.val = l.val * 128 + q.val) :
    wordAt X A p r = word (X t) (A t) l (ix2 i q) := wordAt_emb X A t l i q p r hp hr

/-- The scratch of kept weights at an index. -/
theorem keptAt_ix (X : Fin 14 → FVec Ideal S256x256 .f32) (A : Fin 14 → Fin 4 → Fin 4 → FVec Ideal S16x128 .f32)
    (t : Fin 14) (l : Fin 2) (jj : Fin 4) (s : Fin 2) (i : Fin 16) (q : Fin 128) (n : Fin 1792) (r : Fin 256)
    (hn : n.val = t.val * 128 + jj.val * 32 + s.val * 16 + i.val) (hr : r.val = l.val * 128 + q.val) :
    keptAt X A n r = kept (X t) (A t) l jj s (ix2 i q) := keptAt_emb X A t l jj s i q n r hn hr

/-- The values at an index. -/
theorem outValues_ix (D : FVec Ideal S256x256 .bf16) (V : Fin 7 → FVec Ideal S256x256 .bf16) (src : IVec S1x128 32)
    (u : Fin 7) (h : Fin 2) (r : Fin 256) (q : Fin 128) (n : Fin 1792) (h1 : n.val = u.val * 256 + h.val * 128 + q.val) :
    outValueAt D V src r n = gath (quant D (V u)) src h (ix2 r q) := outValues_emb D V src u h r q n h1

/-- The block's inputs: rows of the weights, the permutation, the unit diagonal, the permuted norms, the lane sources. -/
structure Inputs : Prop where
  weights : ∀ (r : Fin 256) (k : Fin 3584), x0 (ix2 r k) = W (ix2 ⟨T.val * 256 + r.val, by omega⟩ k)
  perm : ∀ r k : Fin 256, x1 (ix2 r k) = if k.val = chan r.val then (1 : EReal) else 0
  unit : ∀ i j : Fin 256, x2 (ix2 i j) = if i = j then (1 : EReal) else 0
  norms : ∀ (n : Fin 3584) (q : Fin 128) (h : n.val / 256 * 256 + chan (n.val % 256) < 3584),
    x3 (ix2 n q) = A (ix1 ⟨n.val / 256 * 256 + chan (n.val % 256), h⟩)
  sources : ∀ (p : Fin 8) (q : Fin 128), x4 (ix2 p q) = BitVec.ofNat 32 (lane q.val)

variable {W A T x0 x1 x2 x3 x4} (H : Inputs W A T x0 x1 x2 x3 x4)
include H

/-- The permuting product picks one weight. -/
theorem blkX_at (t : Fin 14) (r c : Fin 256) (h : t.val * 256 + chan r.val < 3584) :
    blkX x0 x1 t (ix2 r c) = W (ix2 ⟨T.val * 256 + c.val, by omega⟩ ⟨t.val * 256 + chan r.val, h⟩) := by
  unfold blkX
  rw [xt_at]
  have e1 : ∀ x : Fin 256, rectP.idx (ix2 r x) = (ix2 r x : S256x256.Idx) := fun x => by
    funext a; apply Fin.ext
    match a with
    | ⟨0, _⟩ => show 0 + 1 * r.val = r.val; omega
    | ⟨1, _⟩ => show 0 + 1 * x.val = x.val; omega
  have e2 : ∀ x : Fin 256, (rectW t).idx (ix2 c x) = (ix2 c ⟨t.val * 256 + x.val, by omega⟩ : S256x3584.Idx) := fun x => by
    funext a; apply Fin.ext
    match a with
    | ⟨0, _⟩ => show 0 + 1 * c.val = c.val; omega
    | ⟨1, _⟩ => show t.val * 256 + 1 * x.val = t.val * 256 + x.val; omega
  rw [Finset.sum_eq_single ⟨chan r.val, chan_lt r.isLt⟩]
  · rw [e1, e2, H.perm, H.weights, if_pos rfl, one_mul]
  · intro x _ hx
    rw [e1, H.perm, if_neg (fun h => hx (Fin.ext h)), zero_mul]
  · intro h; exact absurd (Finset.mem_univ _) h

/-- The norms that meet a slice. -/
theorem blkA_at (t : Fin 14) (jj c : Fin 4) (r : Fin 16) (q : Fin 128)
    (h : t.val * 256 + chan (c.val * 64 + jj.val * 16 + r.val) < 3584) :
    blkA x3 t jj c (ix2 r q) = A (ix1 ⟨t.val * 256 + chan (c.val * 64 + jj.val * 16 + r.val), h⟩) := by
  unfold blkA
  have e : (rectA t jj c).idx (ix2 r q) = (ix2 ⟨t.val * 256 + c.val * 64 + jj.val * 16 + r.val, by omega⟩ q : S3584x128.Idx) := by
    funext a; apply Fin.ext
    match a with
    | ⟨0, _⟩ => show t.val * 256 + c.val * 64 + jj.val * 16 + 1 * r.val = t.val * 256 + c.val * 64 + jj.val * 16 + r.val; omega
    | ⟨1, _⟩ => show 0 + 1 * q.val = q.val; omega
  have e1 : (t.val * 256 + c.val * 64 + jj.val * 16 + r.val) / 256 = t.val := by omega
  have e2 : (t.val * 256 + c.val * 64 + jj.val * 16 + r.val) % 256 = c.val * 64 + jj.val * 16 + r.val := by omega
  rw [e, H.norms _ _ (by show (t.val * 256 + c.val * 64 + jj.val * 16 + r.val) / 256 * 256 + chan ((t.val * 256 + c.val * 64 + jj.val * 16 + r.val) % 256) < 3584; rw [e1, e2]; exact h)]
  refine congrArg (fun k => A (ix1 k)) (Fin.ext ?_)
  show (t.val * 256 + c.val * 64 + jj.val * 16 + r.val) / 256 * 256 + chan ((t.val * 256 + c.val * 64 + jj.val * 16 + r.val) % 256) = _
  rw [e1, e2]

/-- Four members' weights are those of one group. -/
theorem vals_at (t : Fin 14) (l : Fin 2) (jj : Fin 4) (r : Fin 16) (q : Fin 128) (i : Fin 5120) (g : Fin 896)
    (hi : i.val = T.val * 256 + l.val * 128 + q.val) (hg : g.val = t.val * 64 + 8 * (r.val / 2) + jj.val + 4 * (r.val % 2)) :
    vals (blkX x0 x1 t) l jj r q = Spec.val W i g := by
  funext c
  unfold vals Spec.val
  have hc : t.val * 256 + chan (c.val * 64 + jj.val * 16 + r.val) = g.val * 4 + c.val := by rw [chan_eq]; omega
  rw [sub_at, blkX_at H t _ _ (by show t.val * 256 + chan (c.val * 64 + jj.val * 16 + r.val) < 3584; omega)]
  refine congrArg₂ (fun a b => W (ix2 a b)) (Fin.ext ?_) (Fin.ext hc)
  show T.val * 256 + (l.val * 128 + q.val) = i.val; omega

/-- Four members' saliences are those of one group. -/
theorem keys_at (t : Fin 14) (l : Fin 2) (jj : Fin 4) (r : Fin 16) (q : Fin 128) (i : Fin 5120) (g : Fin 896)
    (hi : i.val = T.val * 256 + l.val * 128 + q.val) (hg : g.val = t.val * 64 + 8 * (r.val / 2) + jj.val + 4 * (r.val % 2)) :
    keys (blkX x0 x1 t) (blkA x3 t) l jj r q = Spec.key W A i g := by
  funext c
  have hv := congrFun (vals_at H t l jj r q i g hi hg) c
  unfold vals Spec.val at hv
  unfold keys Spec.key
  have hc : t.val * 256 + chan (c.val * 64 + jj.val * 16 + r.val) = g.val * 4 + c.val := by rw [chan_eq]; omega
  rw [key_at, hv, blkA_at H t jj c r q (by omega)]
  exact congrArg (fun k => _ * A (ix1 k)) (Fin.ext hc)

/-- A kept weight in the scratch is a kept weight of its row. -/
theorem kept_at (t : Fin 14) (l : Fin 2) (jj : Fin 4) (s : Fin 2) (r : Fin 16) (q : Fin 128) (i : Fin 5120) (n : Fin 1792)
    (hi : i.val = T.val * 256 + l.val * 128 + q.val)
    (hn : n.val = t.val * 128 + 2 * (8 * (r.val / 2) + jj.val + 4 * (r.val % 2)) + s.val) :
    kept (blkX x0 x1 t) (blkA x3 t) l jj s (ix2 r q) = Spec.kept W A i n := by
  have hv := vals_at H t l jj r q i ⟨n.val / 2, by omega⟩ hi (by show n.val / 2 = _; omega)
  have hk := keys_at H t l jj r q i ⟨n.val / 2, by omega⟩ hi (by show n.val / 2 = _; omega)
  have hs : (⟨n.val % 2, by omega⟩ : Fin 2) = s := Fin.ext (by show n.val % 2 = s.val; omega)
  unfold Spec.kept
  rw [hs]
  unfold Spec.pair
  match s with
  | 0 => rw [if_pos (by decide), ← hv, ← hk]; exact kept0_at _ _ l jj r q
  | 1 => rw [if_neg (by decide), ← hv, ← hk]; exact kept1_at _ _ l jj r q

/-- A half word in terms of a row's codes. -/
theorem half_spec (t : Fin 14) (l : Fin 2) (r : Fin 16) (q : Fin 128) (i : Fin 5120) (c : Fin 4 → Nat)
    (hi : i.val = T.val * 256 + l.val * 128 + q.val)
    (hc : ∀ jj : Fin 4, ∀ g : Fin 896, g.val = t.val * 64 + 8 * (r.val / 2) + jj.val + 4 * (r.val % 2) → c jj = Select.code (Spec.key W A i g)) :
    half (blkX x0 x1 t) (blkA x3 t) l (ix2 r q) = BitVec.ofNat 16 (c 0) <<< (4 * 0) ||| BitVec.ofNat 16 (c 1) <<< (4 * 1)
      ||| BitVec.ofNat 16 (c 2) <<< (4 * 2) ||| BitVec.ofNat 16 (c 3) <<< (4 * 3) := by
  have e : ∀ jj : Fin 4, Select.code (keys (blkX x0 x1 t) (blkA x3 t) l jj r q) = c jj := fun jj => by
    rw [keys_at H t l jj r q i ⟨t.val * 64 + 8 * (r.val / 2) + jj.val + 4 * (r.val % 2), by omega⟩ hi rfl]
    exact (hc jj _ rfl).symm
  rw [half_at, e, e, e, e]

/-- The words of a block. -/
theorem blkWords_at (r : Fin 256) (p : Fin 112) :
    blkWords x0 x1 x3 (ix2 r p) = Spec.word W A ⟨T.val * 256 + r.val, by omega⟩ p := by
  have hd : blkWords x0 x1 x3 (ix2 r p) = wordAt (blkX x0 x1) (blkA x3) ⟨p.val, by omega⟩ r := rfl
  rw [hd, wordAt_ix (blkX x0 x1) (blkA x3) ⟨p.val / 8, by omega⟩ ⟨r.val / 128, by omega⟩ ⟨p.val % 8, by omega⟩ ⟨r.val % 128, by omega⟩ _ r
    (by show p.val = p.val / 8 * 8 + p.val % 8; omega) (by show r.val = r.val / 128 * 128 + r.val % 128; omega), word_at]
  have hi : T.val * 256 + r.val = T.val * 256 + r.val / 128 * 128 + r.val % 128 := by omega
  let c : Fin 8 → Nat := fun j => Select.code (Spec.key W A ⟨T.val * 256 + r.val, by omega⟩ ⟨p.val * 8 + j.val, by omega⟩)
  have hc : ∀ (j : Fin 8) (g : Fin 896), g.val = p.val * 8 + j.val → c j = Select.code (Spec.key W A ⟨T.val * 256 + r.val, by omega⟩ g) :=
    fun j g hg => by
      have : g = ⟨p.val * 8 + j.val, by omega⟩ := Fin.ext hg
      rw [this]
  rw [half_spec H ⟨p.val / 8, by omega⟩ ⟨r.val / 128, by omega⟩ ⟨2 * (p.val % 8) + 1, by omega⟩ ⟨r.val % 128, by omega⟩
      ⟨T.val * 256 + r.val, by omega⟩ (fun jj => c ⟨4 + jj.val, by omega⟩) hi (fun jj g hg => hc ⟨4 + jj.val, by omega⟩ g (by
        have hg' : g.val = p.val / 8 * 64 + 8 * ((2 * (p.val % 8) + 1) / 2) + jj.val + 4 * ((2 * (p.val % 8) + 1) % 2) := hg
        show g.val = p.val * 8 + (4 + jj.val); omega)),
    half_spec H ⟨p.val / 8, by omega⟩ ⟨r.val / 128, by omega⟩ ⟨2 * (p.val % 8), by omega⟩ ⟨r.val % 128, by omega⟩
      ⟨T.val * 256 + r.val, by omega⟩ (fun jj => c ⟨jj.val, by omega⟩) hi (fun jj g hg => hc ⟨jj.val, by omega⟩ g (by
        have hg' : g.val = p.val / 8 * 64 + 8 * (2 * (p.val % 8) / 2) + jj.val + 4 * (2 * (p.val % 8) % 2) := hg
        show g.val = p.val * 8 + jj.val; omega))]
  exact Select.word_eq c (fun j => Select.code_lt _)

/-- The largest kept magnitude of a row over 448. -/
theorem blkM_at (r : Fin 256) : blkM x0 x1 x3 (ix2 0 r) = Spec.top W A ⟨T.val * 256 + r.val, by omega⟩ := by
  unfold blkM
  rw [over448_at]
  unfold Spec.top
  refine congrArg (· * Ideal.ofBits .f32 0x3B124925#32) ?_
  have key : ∀ (l : Fin 2) (q : Fin 128), r.val = l.val * 128 + q.val →
      Finset.univ.fold max ⊥ (fun x : Fin 16 => amax (blkX x0 x1) (blkA x3) l (ix2 x q))
        = Finset.univ.fold max ⊥ (fun n : Fin 1792 => max (Spec.kept W A ⟨T.val * 256 + r.val, by omega⟩ n) (-Spec.kept W A ⟨T.val * 256 + r.val, by omega⟩ n)) := by
    intro l q hr
    refine eq_of_forall_ge_iff fun z => ?_
    rw [Finset.fold_max_le, Finset.fold_max_le]
    refine and_congr Iff.rfl ⟨fun h n _ => ?_, fun h x _ => ?_⟩
    · have hx := ((amax_le _ _ _ _ _ _).mp (h ⟨2 * (n.val % 128 / 16) + n.val % 16 / 8, by omega⟩ (Finset.mem_univ _))).2
        ⟨n.val / 128, by omega⟩ ⟨n.val % 8 / 2, by omega⟩ ⟨n.val % 2, by omega⟩
      rw [kept_at H _ _ _ _ _ _ ⟨T.val * 256 + r.val, by omega⟩ n (by show T.val * 256 + r.val = _; omega) (by
        show n.val = n.val / 128 * 128 + 2 * (8 * ((2 * (n.val % 128 / 16) + n.val % 16 / 8) / 2) + n.val % 8 / 2
          + 4 * ((2 * (n.val % 128 / 16) + n.val % 16 / 8) % 2)) + n.val % 2
        omega)] at hx
      exact hx
    · refine (amax_le _ _ _ _ _ _).mpr ⟨(abs_nonneg _).trans (h 0 (Finset.mem_univ _)), fun t jj s => ?_⟩
      rw [kept_at H t l jj s x q ⟨T.val * 256 + r.val, by omega⟩ ⟨t.val * 128 + 2 * (8 * (x.val / 2) + jj.val + 4 * (x.val % 2)) + s.val, by omega⟩
        (by show T.val * 256 + r.val = _; omega) rfl]
      exact h _ (Finset.mem_univ _)
  by_cases h : r.val < 128
  · rw [dif_pos h]; exact key 0 ⟨r.val, h⟩ (by show r.val = 0 * 128 + r.val; omega)
  · rw [dif_neg h]; exact key 1 ⟨r.val - 128, by omega⟩ (by show r.val = 1 * 128 + (r.val - 128); omega)

/-- The scales of a block. -/
theorem blkScale_at (hW : ∀ j, max (W j) (-W j) ≤ Scale.two 128) (r : Fin 256) :
    blkScale x0 x1 x3 (ix3 0 0 r) = Spec.scale W A ⟨T.val * 256 + r.val, by omega⟩ := by
  have e : blkScale x0 x1 x3 (ix3 0 0 r) = scaleV (blkM x0 x1 x3) (ix2 0 r) := by
    generalize hh : scaleV (blkM x0 x1 x3) = M
    pointwise [blkScale, hh]
  have hb := blkM_at H r
  rw [e, scaleV_at _ _ (by rw [hb]; exact Spec.top_lt W A hW _) (by rw [hb]; exact Spec.count_small W A hW _), hb]
  rfl

/-- The values of a block. -/
theorem blkValues_at (hW : ∀ j, max (W j) (-W j) ≤ Scale.two 128) (r : Fin 256) (n : Fin 1792) :
    blkValues x0 x1 x2 x3 x4 (ix2 r n) = Spec.value W A ⟨T.val * 256 + r.val, by omega⟩ n := by
  have hd : blkValues x0 x1 x2 x3 x4 (ix2 r n) = outValueAt (diag (blkM x0 x1 x3) (fun y => x2 (rectP.idx y)))
    (keptTile (blkX x0 x1) (blkA x3)) (fun y => x4 (rectS.idx y)) r n := rfl
  have hb := blkM_at H r
  have hs : (fun y : S1x128.Idx => x4 (rectS.idx y)) (ix2 0 ⟨n.val % 128, by omega⟩) = BitVec.ofNat 32 (lane (n.val % 128)) := by
    have e : rectS.idx (ix2 (0 : Fin 1) (⟨n.val % 128, by omega⟩ : Fin 128)) = (ix2 0 ⟨n.val % 128, by omega⟩ : S8x128.Idx) := by
      funext a; apply Fin.ext
      match a with
      | ⟨0, _⟩ => rfl
      | ⟨1, _⟩ => show 0 + 1 * (n.val % 128) = n.val % 128; omega
    show x4 (rectS.idx (ix2 (0 : Fin 1) (⟨n.val % 128, by omega⟩ : Fin 128))) = _
    rw [e, H.sources]
  have hl : lane (n.val % 128) < 128 := lane_lt (by omega)
  rw [hd, outValues_ix _ _ _ ⟨n.val / 256, by omega⟩ ⟨n.val % 256 / 128, by omega⟩ r ⟨n.val % 128, by omega⟩ n
      (by show n.val = n.val / 256 * 256 + n.val % 256 / 128 * 128 + n.val % 128; omega),
    gath_at _ _ _ _ _ (lane (n.val % 128)) hl hs, quant_at]
  unfold Spec.value
  refine congrArg (fun y => min (Ideal.ofBits .f32 0x43E00000#32) (max (Ideal.ofBits .f32 0xC3E00000#32) y)) ?_
  have e1 : ∀ x : Fin 256, rectP.idx (ix2 r x) = (ix2 r x : S256x256.Idx) := fun x => by
    funext a; apply Fin.ext
    match a with
    | ⟨0, _⟩ => show 0 + 1 * r.val = r.val; omega
    | ⟨1, _⟩ => show 0 + 1 * x.val = x.val; omega
  rw [Finset.sum_eq_single r]
  · rw [diag_at, e1, H.unit, if_pos rfl, one_mul,
      invV_at _ _ (by rw [hb]; exact Spec.top_lt W A hW _) (by rw [hb]; exact Spec.count_small W A hW _), hb, mul_comm]
    refine congrArg (· * Scale.two (-Spec.expo W A ⟨T.val * 256 + r.val, by omega⟩)) ?_
    have hk : keptTile (blkX x0 x1) (blkA x3) ⟨n.val / 256, by omega⟩ (ix2 ⟨n.val % 256 / 128 * 128 + lane (n.val % 128), by omega⟩ r)
      = keptAt (blkX x0 x1) (blkA x3) ⟨n.val / 256 * 256 + (n.val % 256 / 128 * 128 + lane (n.val % 128)), by omega⟩ r := rfl
    rw [hk, keptAt_ix (blkX x0 x1) (blkA x3) ⟨n.val / 128, by omega⟩ ⟨r.val / 128, by omega⟩ ⟨lane (n.val % 128) / 32, by omega⟩
      ⟨lane (n.val % 128) % 32 / 16, by omega⟩ ⟨lane (n.val % 128) % 16, by omega⟩ ⟨r.val % 128, by omega⟩ _ _
      (by show n.val / 256 * 256 + (n.val % 256 / 128 * 128 + lane (n.val % 128)) = n.val / 128 * 128 + lane (n.val % 128) / 32 * 32 + lane (n.val % 128) % 32 / 16 * 16 + lane (n.val % 128) % 16
          omega) (by show r.val = r.val / 128 * 128 + r.val % 128; omega)]
    refine kept_at H _ _ _ _ _ _ _ n (by show T.val * 256 + r.val = T.val * 256 + r.val / 128 * 128 + r.val % 128; omega) ?_
    show n.val = n.val / 128 * 128 + 2 * (8 * (lane (n.val % 128) % 16 / 2) + lane (n.val % 128) / 32 + 4 * (lane (n.val % 128) % 16 % 2)) + lane (n.val % 128) % 32 / 16
    have hq := lane_eq ⟨n.val % 128, by omega⟩
    dsimp only at hq
    omega
  · intro x _ hx
    rw [diag_at, e1, H.unit, if_neg (fun h => hx h.symm), zero_mul, zero_mul]
  · intro h; exact absurd (Finset.mem_univ _) h

end

/-! ## The arrays -/

variable (m : (ℓ : Loc nD τ sig) → Buf (Elt Ideal) ℓ)

/-- The weights. -/
abbrev argW (c : Dev nD) : FVec Ideal S5120x3584 .bf16 := m ((c : Thread nD τ).loc main_arg0)

/-- The blocks of one grid point. -/
theorem inputs (c : Dev nD) (T : Fin 20) :
    Inputs (argW m c) (actA m c) T (weights m c T) (permV m c) (eyeV m c) (actV m c) (srcV m c) where
  weights := fun r k => rfl
  perm := permV_at m c
  unit := eyeV_at m c
  norms := actV_at m c
  sources := srcV_at m c

/-- A row is its block and its row within. -/
theorem row_eq (i : Fin 5120) (h : i.val / 256 * 256 + i.val % 256 < 5120) : (⟨i.val / 256 * 256 + i.val % 256, h⟩ : Fin 5120) = i :=
  Fin.ext (by show i.val / 256 * 256 + i.val % 256 = i.val; omega)

/-- The kernel's values are the specification's. -/
theorem valuesArr_at (c : Dev nD) (hW : ∀ j, max (argW m c j) (-argW m c j) ≤ Scale.two 128) (i : Fin 5120) (n : Fin 1792) :
    valuesArr m c (ix2 i n) = Spec.value (argW m c) (actA m c) i n :=
  (blkValues_at (inputs m c ⟨i.val / 256, by omega⟩) hW ⟨i.val % 256, by omega⟩ n).trans
    (congrArg (fun k => Spec.value (argW m c) (actA m c) k n) (row_eq i _))

/-- The kernel's words are the specification's. -/
theorem wordsArr_at (c : Dev nD) (i : Fin 5120) (p : Fin 112) :
    wordsArr m c (ix2 i p) = Spec.word (argW m c) (actA m c) i p :=
  (blkWords_at (inputs m c ⟨i.val / 256, by omega⟩) ⟨i.val % 256, by omega⟩ p).trans
    (congrArg (fun k => Spec.word (argW m c) (actA m c) k p) (row_eq i _))

/-- The kernel's scales are the specification's. -/
theorem scaleArr_at (c : Dev nD) (hW : ∀ j, max (argW m c j) (-argW m c j) ≤ Scale.two 128) (t : Fin 20) (r : Fin 256)
    (h : t.val * 256 + r.val < 5120) :
    scaleArr m c (ix3 t 0 r) = Spec.scale (argW m c) (actA m c) ⟨t.val * 256 + r.val, h⟩ :=
  blkScale_at (inputs m c t) hW r

end Cert.KernelIdeal.Body
end
-- ==== Proof.Reference.lean ====
/-
  The reference's three results, element by element.
-/
module

public import proofs.«01_k».proof.Proof.Gen.ReferenceIdeal.Run
public import proofs.«01_k».proof.Proof.Spec
public import Idealize.ShloMosaic.Lib.IndicatorCount

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
variable (V : Valuation τ sig (Elt Ideal))

/-- The weights. -/
abbrev argW : FVec Ideal S5120x3584 .bf16 := V (Proc.devRef .tc main_arg0)
/-- The activation norms. -/
abbrev argA : FVec Ideal S3584 .f32 := V (Proc.devRef .tc main_arg1)

/-- The first member's salience. -/
theorem v16 (i : Fin 5120) (g : Fin 896) : res_main_v16 V (ix2 i g) = Spec.key (argW V) (argA V) i g 0 := by
  pointwise [res_main_v16, res_main_v3, res_main_v0, res_main_v1]
  rfl
/-- The second member's salience. -/
theorem v23 (i : Fin 5120) (g : Fin 896) : res_main_v23 V (ix2 i g) = Spec.key (argW V) (argA V) i g 1 := by
  pointwise [res_main_v23, res_main_v5, res_main_v0, res_main_v1]
  rfl
/-- The third member's salience. -/
theorem v30 (i : Fin 5120) (g : Fin 896) : res_main_v30 V (ix2 i g) = Spec.key (argW V) (argA V) i g 2 := by
  pointwise [res_main_v30, res_main_v7, res_main_v0, res_main_v1]
  rfl
/-- The fourth member's salience. -/
theorem v37 (i : Fin 5120) (g : Fin 896) : res_main_v37 V (ix2 i g) = Spec.key (argW V) (argA V) i g 3 := by
  pointwise [res_main_v37, res_main_v9, res_main_v0, res_main_v1]
  rfl
/-- The first member's weight. -/
theorem v3 (i : Fin 5120) (g : Fin 896) : res_main_v3 V (ix2 i g) = Spec.val (argW V) i g 0 := by
  pointwise [res_main_v3, res_main_v0]
  rfl
/-- The second member's weight. -/
theorem v5 (i : Fin 5120) (g : Fin 896) : res_main_v5 V (ix2 i g) = Spec.val (argW V) i g 1 := by
  pointwise [res_main_v5, res_main_v0]
  rfl
/-- The third member's weight. -/
theorem v7 (i : Fin 5120) (g : Fin 896) : res_main_v7 V (ix2 i g) = Spec.val (argW V) i g 2 := by
  pointwise [res_main_v7, res_main_v0]
  rfl
/-- The fourth member's weight. -/
theorem v9 (i : Fin 5120) (g : Fin 896) : res_main_v9 V (ix2 i g) = Spec.val (argW V) i g 3 := by
  pointwise [res_main_v9, res_main_v0]
  rfl
/-- Whether the first member is kept. -/
theorem v71 (i : Fin 5120) (g : Fin 896) : res_main_v71 V (ix2 i g) = Select.keep0 (Spec.key (argW V) (argA V) i g) := by
  pointwise [res_main_v71, v16, v23, v30, v37]
  rfl
/-- Whether the second member is kept. -/
theorem v73 (i : Fin 5120) (g : Fin 896) : res_main_v73 V (ix2 i g) = Select.keep1 (Spec.key (argW V) (argA V) i g) := by
  pointwise [res_main_v73, v16, v23, v30, v37]
  rfl
/-- Whether the third member is kept. -/
theorem v75 (i : Fin 5120) (g : Fin 896) : res_main_v75 V (ix2 i g) = Select.keep2 (Spec.key (argW V) (argA V) i g) := by
  pointwise [res_main_v75, v16, v23, v30, v37]
  rfl
/-- Whether the fourth member is kept. -/
theorem v77 (i : Fin 5120) (g : Fin 896) : res_main_v77 V (ix2 i g) = Select.keep3 (Spec.key (argW V) (argA V) i g) := by
  pointwise [res_main_v77, v16, v23, v30, v37]
  rfl

/-- The kept weights. -/
theorem v92 (i : Fin 5120) (n : Fin 1792) : res_main_v92 V (ix2 i n) = Spec.kept (argW V) (argA V) i n := by
  pointwise [res_main_v92, v71, v73, v75, v77, v3, v5, v7, v9]
  rfl

/-- The codes. -/
theorem v130 (i : Fin 5120) (g : Fin 896) : res_main_v130 V (ix2 i g) = Spec.code (argW V) (argA V) i g := by
  pointwise [res_main_v130, id, v71, v73, v75, v77]
  exact Select.places_eq _

/-- A row's largest magnitude. -/
theorem rowMax (X : FVec Ideal S5120x1792 .f32) (i : Fin 5120) :
    Host.reduce (FloatOps.maximumf (F := Ideal)) (Host.absf X) (constant (F := Ideal) S_ .f32 0xFF800000#32) reducesTo_S5120x1792_S5120_d1 h_S_ (ix1 i)
      = Finset.univ.fold max ⊥ (fun n : Fin 1792 => max (X (ix2 i n)) (-X (ix2 i n))) := by
  pointwise []
  have e : Ideal.ofBits .f32 0xFF800000#32 = ⊥ := by
    rw [Scale.ofBits_f32]
    unfold Ideal.ieee
    simp only [(by decide : ((0xFF800000#32).extractLsb' 31 1 == 1#1) = true), (by decide : ((0xFF800000#32).extractLsb' 23 8).toNat = 255),
      (by decide : ((0xFF800000#32).extractLsb' 0 23).toNat = 0)]
    rw [if_pos (by norm_num)]
    simp
  rw [e]
  rfl

/-- How many of a row's indicators hold. -/
theorem rowCount (R : IVec S5120x254 1) (i : Fin 5120) :
    Host.reduce IntOp.addi (extui 32 R natLt_1_32) (constantI S_ 32 0#32) reducesTo_S5120x254_S5120_d1 h_S_ (ix1 i)
      = BitVec.ofNat 32 ((Finset.univ.filter fun p : Fin 254 => R (ix2 i p) = 1#1).card) := by
  pointwise []
  exact IndicatorCount.fold_addi_setWidth_eq_card _ _

/-- Over 448. -/
def mulOf (Y : FVec Ideal S5120 .f32) : FVec Ideal S5120x1 .f32 :=
  mulf (broadcastInDim S5120x1 ![0] bcast_S5120_S5120x1_0 Y) (broadcastInDim S5120x1 ![] bcast_S_S5120x1 (constant S_ .f32 0x3B124925#32))

/-- A row's number over 448. -/
theorem mulOf_at (Y : FVec Ideal S5120 .f32) (i : Fin 5120) : mulOf Y (ix2 i 0) = Y (ix1 i) * Ideal.ofBits .f32 0x3B124925#32 := by
  pointwise [mulOf]

/-- A row's largest magnitude over 448. -/
def topOf (X : FVec Ideal S5120x1792 .f32) : FVec Ideal S5120x1 .f32 :=
  mulOf (Host.reduce (FloatOps.maximumf (F := Ideal)) (Host.absf X) (constant (F := Ideal) S_ .f32 0xFF800000#32) reducesTo_S5120x1792_S5120_d1 h_S_)

/-- A row's largest magnitude over 448. -/
theorem topOf_at (X : FVec Ideal S5120x1792 .f32) (i : Fin 5120) : topOf X (ix2 i 0)
    = Finset.univ.fold max ⊥ (fun n : Fin 1792 => max (X (ix2 i n)) (-X (ix2 i n))) * Ideal.ofBits .f32 0x3B124925#32 :=
  (mulOf_at _ i).trans (congrArg (fun z : EReal => z * Ideal.ofBits .f32 0x3B124925#32) (rowMax X i))

/-- The largest kept magnitude over 448. -/
def topV : FVec Ideal S5120x1 .f32 := topOf (res_main_v92 V)

/-- The largest kept magnitude over 448. -/
theorem topV_at (i : Fin 5120) : topV V (ix2 i 0) = Spec.top (argW V) (argA V) i :=
  (topOf_at (res_main_v92 V) i).trans
    (congrArg (fun f : Fin 1792 → EReal => Finset.univ.fold max ⊥ f * Ideal.ofBits .f32 0x3B124925#32)
      (funext fun n => congrArg (fun z : EReal => max z (-z)) (v92 V i n)))

/-- The powers of two. -/
def powV (b : BitVec 32) : FVec Ideal S254 .f32 :=
  Host.powf (broadcastInDim S254 ![] bcast_S_S254 (constant S_ .f32 0x40000000#32)) (sitofp .f32 (addi (broadcastInDim S254 ![] bcast_S_S254 (constantI S_ 32 b)) (iotaInDim S254 32 0)))

/-- The powers of two. -/
theorem powV_at (b : BitVec 32) (p : Fin 254) : powV b (ix1 p) = Scale.two (IntOp.addi b (BitVec.ofNat 32 p.val)).toInt := by
  pointwise [powV]
  exact Scale.pow_eq _

/-- Where a row reaches a power. -/
def reachV (T : FVec Ideal S5120x1 .f32) (P : FVec Ideal S254 .f32) : IVec S5120x254 1 :=
  cmpf (F := Ideal) .oge (broadcastInDim S5120x254 ![0, 1] bcast_S5120x1_S5120x254_0_1 T) (broadcastInDim S5120x254 ![0, 1] bcast_S1x254_S5120x254_0_1 (broadcastInDim S1x254 ![1] bcast_S254_S1x254_1 P))

/-- Whether a row reaches a power. -/
theorem reachV_at (T : FVec Ideal S5120x1 .f32) (P : FVec Ideal S254 .f32) (i : Fin 5120) (p : Fin 254) :
    reachV T P (ix2 i p) = BitVec.ofBool (decide (P (ix1 p) ≤ T (ix2 i 0))) := by
  pointwise [reachV]

/-- The count as a sum over the powers. -/
theorem v110_term : res_main_v110 V = broadcastInDim S5120x1 ![0] bcast_S5120_S5120x1_0 (Host.reduce IntOp.addi (extui 32 (reachV (topV V) (powV 4294967170#32)) natLt_1_32) (constantI S_ 32 0#32) reducesTo_S5120x254_S5120_d1 h_S_) := rfl

/-- The number of powers a row reaches. -/
theorem v110 (i : Fin 5120) : res_main_v110 V (ix2 i 0) = BitVec.ofNat 32 (Scale.count (Spec.top (argW V) (argA V) i)) := by
  rw [v110_term]
  generalize hR : reachV (topV V) (powV 4294967170#32) = R
  have e : broadcastInDim S5120x1 ![0] bcast_S5120_S5120x1_0 (Host.reduce IntOp.addi (extui 32 R natLt_1_32) (constantI S_ 32 0#32) reducesTo_S5120x254_S5120_d1 h_S_) (ix2 i 0)
      = Host.reduce IntOp.addi (extui 32 R natLt_1_32) (constantI S_ 32 0#32) reducesTo_S5120x254_S5120_d1 h_S_ (ix1 i) := by
    generalize Host.reduce IntOp.addi (extui 32 R natLt_1_32) (constantI S_ 32 0#32) reducesTo_S5120x254_S5120_d1 h_S_ = X
    pointwise []
  rw [e, rowCount]
  refine congrArg (BitVec.ofNat 32) ?_
  unfold Scale.count
  refine congrArg Finset.card (Finset.filter_congr fun p _ => ?_)
  rw [← hR, reachV_at, powV_at, topV_at, Scale.index_toInt p.val p.isLt]
  by_cases h : Scale.two ((p.val : ℤ) - 126) ≤ Spec.top (argW V) (argA V) i
  · rw [decide_eq_true h]; exact ⟨fun _ => h, fun _ => rfl⟩
  · rw [decide_eq_false h]; exact ⟨fun e => absurd e (by decide), fun e => absurd e h⟩

/-- The exponent. -/
theorem v115 (i : Fin 5120) : res_main_v115 V (ix2 i 0) = Scale.expoW (BitVec.ofNat 32 (Scale.count (Spec.top (argW V) (argA V) i))) := by
  pointwise [res_main_v115, v110, id]
  rfl

/-- The values. -/
theorem values_at (i : Fin 5120) (n : Fin 1792) :
    Host.convertf (F := Ideal) .fp8e4m3 (minimumf (broadcastInDim S5120x1792 ![] bcast_S_S5120x1792 (id (constant S_ .f32 0x43E00000#32))) (maximumf (broadcastInDim S5120x1792 ![] bcast_S_S5120x1792 (id (constant S_ .f32 0xC3E00000#32))) (mulf (res_main_v92 V) (broadcastInDim S5120x1792 ![0, 1] bcast_S5120x1_S5120x1792_0_1 (Host.powf (broadcastInDim S5120x1 ![] bcast_S_S5120x1 (constant S_ .f32 0x40000000#32)) (sitofp .f32 (negi (res_main_v115 V)))))))) (ix2 i n)
      = Spec.value (argW V) (argA V) i n := by
  pointwise [v92, v115, id]
  rw [Scale.pow_eq, Scale.neg_expoW_toInt _ (Scale.count_le _)]
  rfl

/-- The scales. -/
theorem scales_at (t : Fin 20) (r : Fin 256) (h : t.val * 256 + r.val < 5120) :
    shapeCast S20x1x256 (Host.powf (F := Ideal) (broadcastInDim S5120x1 ![] bcast_S_S5120x1 (constant S_ .f32 0x40000000#32)) (sitofp .f32 (res_main_v115 V))) shapeCasts_S5120x1_S20x1x256 (ix3 t 0 r)
      = Spec.scale (argW V) (argA V) ⟨t.val * 256 + r.val, h⟩ := by
  pointwise [v115]
  rw [Scale.pow_eq, Scale.expoW_toInt _ (Scale.count_le _)]
  rfl

/-- The words. -/
theorem words_at (i : Fin 5120) (p : Fin 112) :
    (id (ori (ori (ori (ori (ori (ori (ori (Host.slice S5120x112 ![0, 0] ![1, 8] (res_main_v130 V) slicesBy_S5120x896_S5120x112_0s1_0s8) (Host.shli (Host.slice S5120x112 ![0, 1] ![1, 8] (res_main_v130 V) slicesBy_S5120x896_S5120x112_0s1_1s8) (broadcastInDim S5120x112 ![] bcast_S_S5120x112 (constantI S_ 32 4#32)))) (Host.shli (Host.slice S5120x112 ![0, 2] ![1, 8] (res_main_v130 V) slicesBy_S5120x896_S5120x112_0s1_2s8) (broadcastInDim S5120x112 ![] bcast_S_S5120x112 (constantI S_ 32 8#32)))) (Host.shli (Host.slice S5120x112 ![0, 3] ![1, 8] (res_main_v130 V) slicesBy_S5120x896_S5120x112_0s1_3s8) (broadcastInDim S5120x112 ![] bcast_S_S5120x112 (constantI S_ 32 12#32)))) (Host.shli (Host.slice S5120x112 ![0, 4] ![1, 8] (res_main_v130 V) slicesBy_S5120x896_S5120x112_0s1_4s8) (broadcastInDim S5120x112 ![] bcast_S_S5120x112 (constantI S_ 32 16#32)))) (Host.shli (Host.slice S5120x112 ![0, 5] ![1, 8] (res_main_v130 V) slicesBy_S5120x896_S5120x112_0s1_5s8) (broadcastInDim S5120x112 ![] bcast_S_S5120x112 (constantI S_ 32 20#32)))) (Host.shli (Host.slice S5120x112 ![0, 6] ![1, 8] (res_main_v130 V) slicesBy_S5120x896_S5120x112_0s1_6s8) (broadcastInDim S5120x112 ![] bcast_S_S5120x112 (constantI S_ 32 24#32)))) (Host.shli (Host.slice S5120x112 ![0, 7] ![1, 8] (res_main_v130 V) slicesBy_S5120x896_S5120x112_0s1_7s8) (broadcastInDim S5120x112 ![] bcast_S_S5120x112 (constantI S_ 32 28#32)))) : IVec S5120x112 32) (ix2 i p)
      = Spec.word (argW V) (argA V) i p := by
  pointwise [v130, id]
  rw [Select.shli_eq _ _ 4 (by decide), Select.shli_eq _ _ 8 (by decide), Select.shli_eq _ _ 12 (by decide), Select.shli_eq _ _ 16 (by decide),
    Select.shli_eq _ _ 20 (by decide), Select.shli_eq _ _ 24 (by decide), Select.shli_eq _ _ 28 (by decide)]
  have g0 : (⟨8 * p.val, by omega⟩ : Fin 896) = ⟨p.val * 8, by omega⟩ := Fin.ext (by show 8 * p.val = p.val * 8; omega)
  have g : ∀ j, (hj : j < 8) → (⟨j + 8 * p.val, by omega⟩ : Fin 896) = ⟨p.val * 8 + j, by omega⟩ := fun j hj =>
    Fin.ext (by show j + 8 * p.val = p.val * 8 + j; omega)
  rw [g0, g 1 (by omega), g 2 (by omega), g 3 (by omega), g 4 (by omega), g 5 (by omega), g 6 (by omega), g 7 (by omega)]
  rfl

end Cert.ReferenceIdeal.Value
end
-- ==== Proof.lean ====
module

public import proofs.«01_k».proof.Defs
public import proofs.«01_k».proof.Proof.Gen.Pre_finite
public import proofs.«01_k».proof.Proof.KernelFrame
public import proofs.«01_k».proof.Proof.KernelIdealFrame
public import proofs.«01_k».proof.Proof.KernelSpec
public import proofs.«01_k».proof.Proof.Reference

@[expose] public section

noncomputable section

namespace Cert.Proof

open Idealize.ShloMosaic Idealize.ShloMosaic.TcCoe Idealize.SL.Sem

/-- The reference runs and leaves its arguments as they were; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => ⟨(h c).2.2.2.1, (h c).2.2.2.2⟩,
      Idealize.ShloMosaic.sem_eq_zero_of_no_sems (by decide) r.2⟩)
    (Cert.ReferenceIdeal.Value.run (F := Ideal) m ρ)

/-- The largest finite bfloat16 lies below `2^128`. -/
theorem bf16_max_le : Ideal.ofBits .f32 0x7F7F0000#32 ≤ Scale.two 128 := by
  rw [Scale.ofBits_f32]
  unfold Ideal.ieee Scale.two
  simp only [(by decide : ((0x7F7F0000#32).extractLsb' 31 1 == 1#1) = false), (by decide : ((0x7F7F0000#32).extractLsb' 23 8).toNat = 254),
    (by decide : ((0x7F7F0000#32).extractLsb' 0 23).toNat = 8323072)]
  rw [if_neg (by omega), if_neg (by omega), EReal.coe_le_coe_iff]
  norm_num

/-- What the precondition says: every weight's magnitude is below `2^128`. -/
theorem bounded (W : FVec Ideal Cert.Pre_finite.S5120x3584 .bf16) (A : FVec Ideal Cert.Pre_finite.S3584 .f32)
    (h : Cert.Pre_finite.fn (F := Ideal) W A = fun _ => 1#1) (j : Cert.Pre_finite.S5120x3584.Idx) :
    max (W j) (-W j) ≤ Scale.two 128 := by
  obtain ⟨r, k, rfl⟩ : ∃ (r : Fin 5120) (k : Fin 3584), j = ix2 r k := ⟨j 0, j 1, ValueIdx.eq_ix2 j⟩
  have hj := congrFun h (ix2 r k)
  have e : Cert.Pre_finite.fn (F := Ideal) W A (ix2 r k)
      = BitVec.ofBool (decide (max (W (ix2 r k)) (-W (ix2 r k)) ≤ Ideal.ofBits .f32 0x7F7F0000#32)) := rfl
  rw [e] at hj
  by_cases hle : max (W (ix2 r k)) (-W (ix2 r k)) ≤ Ideal.ofBits .f32 0x7F7F0000#32
  · exact hle.trans bf16_max_le
  · rw [decide_eq_false hle] at hj
    exact absurd hj (by decide)

section
variable (m : (ℓ : Loc Cert.KernelIdeal.nD Cert.KernelIdeal.τ Cert.KernelIdeal.sig) → Buf (Elt Ideal) ℓ)

/-- The values both programs return. -/
def values (c : Dev Cert.KernelIdeal.nD) : Vec Ideal Cert.KernelIdeal.S5120x1792 .fp8e4m3 := fun y =>
  Spec.value (Cert.KernelIdeal.Body.argW m c) (Cert.KernelIdeal.Body.actA m c) (y 0) (y 1)

/-- The words of codes both programs return. -/
def words (c : Dev Cert.KernelIdeal.nD) : Vec Ideal Cert.KernelIdeal.S5120x112 .i32 := fun y =>
  Spec.word (Cert.KernelIdeal.Body.argW m c) (Cert.KernelIdeal.Body.actA m c) (y 0) (y 1)

/-- A block and a row of it name a row. -/
theorem row_lt (t : Fin 20) (r : Fin 256) : t.val * 256 + r.val < 5120 := by omega

/-- The scales both programs return. -/
def scales (c : Dev Cert.KernelIdeal.nD) : Vec Ideal Cert.KernelIdeal.S20x1x256 .f32 := fun y =>
  Spec.scale (Cert.KernelIdeal.Body.argW m c) (Cert.KernelIdeal.Body.actA m c) ⟨(y 0).val * 256 + (y 2).val, row_lt (y 0) (y 2)⟩

/-- An index of the scales is a block and a row of it. -/
theorem eq_ix3' (y : Cert.KernelIdeal.S20x1x256.Idx) : ∃ (t : Fin 20) (r : Fin 256), y = ix3 t 0 r := by
  refine ⟨y 0, y 2, ?_⟩
  have h1 : (y 1).val < 1 := (y 1).isLt
  funext a; apply Fin.ext
  match a with
  | ⟨0, _⟩ => rfl
  | ⟨1, _⟩ => show (y 1).val = 0; omega
  | ⟨2, _⟩ => rfl

variable (c : Dev Cert.KernelIdeal.nD)
  (hW : ∀ j, max (Cert.KernelIdeal.Body.argW m c j) (-Cert.KernelIdeal.Body.argW m c j) ≤ Scale.two 128)

include hW in
/-- The kernel's values. -/
theorem valuesArr_eq : Cert.KernelIdeal.Body.valuesArr m c = values m c := by
  funext y
  obtain ⟨i, n, rfl⟩ : ∃ (i : Fin 5120) (n : Fin 1792), y = ix2 i n := ⟨y 0, y 1, ValueIdx.eq_ix2 y⟩
  exact Cert.KernelIdeal.Body.valuesArr_at m c hW i n

/-- The kernel's words of codes. -/
theorem wordsArr_eq : Cert.KernelIdeal.Body.wordsArr m c = words m c := by
  funext y
  obtain ⟨i, p, rfl⟩ : ∃ (i : Fin 5120) (p : Fin 112), y = ix2 i p := ⟨y 0, y 1, ValueIdx.eq_ix2 y⟩
  exact Cert.KernelIdeal.Body.wordsArr_at m c i p

include hW in
/-- The kernel's scales. -/
theorem scaleArr_eq : Cert.KernelIdeal.Body.scaleArr m c = scales m c := by
  funext y
  obtain ⟨t, r, rfl⟩ := eq_ix3' y
  exact Cert.KernelIdeal.Body.scaleArr_at m c hW t r (row_lt t r)

end

/-- From the same arguments, with finite weights, the kernel and the reference return the same three arrays. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨values m, words m, scales m, ?_, ?_⟩
  · refine (θ_run Cert.KernelIdeal.defs _ _).mono (fun r h c => ?_) (Cert.KernelIdeal.Body.run_results (F := Ideal) m g)
    have hW := bounded _ _ (hpre c)
    exact ⟨(h c).1.trans (valuesArr_eq m c hW), (h c).2.1.trans (wordsArr_eq m c), (h c).2.2.1.trans (scaleArr_eq m c hW), (h c).2.2.2⟩
  · refine (θ_run Cert.ReferenceIdeal.defs _ _).mono (fun r h c => ?_) (Cert.ReferenceIdeal.Value.run (F := Ideal) m' g')
    have eW : Cert.ReferenceIdeal.Value.argW (StableHlo.launchContents m' c) = Cert.KernelIdeal.Body.argW m c := (hargs c).1
    have eA : Cert.ReferenceIdeal.Value.argA (StableHlo.launchContents m' c) = Cert.KernelIdeal.Body.actA m c := (hargs c).2
    refine ⟨(h c).1.trans ?_, (h c).2.1.trans ?_, (h c).2.2.1.trans ?_, (h c).2.2.2⟩
    · funext y
      obtain ⟨i, n, rfl⟩ : ∃ (i : Fin 5120) (n : Fin 1792), y = ix2 i n := ⟨y 0, y 1, ValueIdx.eq_ix2 y⟩
      refine (Cert.ReferenceIdeal.Value.values_at _ i n).trans ?_
      rw [eW, eA]; rfl
    · funext y
      obtain ⟨i, p, rfl⟩ : ∃ (i : Fin 5120) (p : Fin 112), y = ix2 i p := ⟨y 0, y 1, ValueIdx.eq_ix2 y⟩
      refine (Cert.ReferenceIdeal.Value.words_at _ i p).trans ?_
      rw [eW, eA]; rfl
    · funext y
      obtain ⟨t, q, rfl⟩ := eq_ix3' y
      refine (Cert.ReferenceIdeal.Value.scales_at _ t q (row_lt t q)).trans ?_
      rw [eW, eA]; rfl

/-- The claims together. -/
theorem claim : Cert.Claim :=
  ⟨Cert.Kernel.Gen.facts, Cert.KernelIdeal.Gen.facts, Cert.ReferenceIdeal.Gen.facts, Cert.Pre_finite.Gen.facts,
    fun m ρ _ => Cert.Kernel.Body.frame m ρ, fun m ρ _ => Cert.KernelIdeal.Body.frame m ρ,
    fun m ρ _ => Cert.KernelIdeal.Body.frame m ρ, frame_reference, fun m ρ _ => frame_reference m ρ trivial, trivial, algebraic⟩

end Cert.Proof

end
